-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_encoder [hPre_finite_encoder : Cert.Pre_finite_encoder.Facts] (m : (ℓ : Loc Cert.KernelIdeal.nD Cert.KernelIdeal.τ Cert.KernelIdeal.sig) → Buf (Elt Ideal) ℓ) : Prop :=
  ∀ c : Dev Cert.KernelIdeal.nD,
    (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.1 = (fun _ => 1#1)
    ∧ (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_encoder [hPre_finite_encoder : Cert.Pre_finite_encoder.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.1 = (fun _ => 1#1)
    ∧ (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_finite_encoder [hKernelIdeal : Cert.KernelIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_encoder m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_finite_encoder [hReferenceIdeal : Cert.ReferenceIdeal.Facts] [hPre_finite_encoder : Cert.Pre_finite_encoder.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_encoder m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal_pre_finite_encoder [hKernelIdeal : Cert.KernelIdeal.Facts] [hReferenceIdeal : Cert.ReferenceIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_encoder m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v93)) (v2 : (c : Dev Cert.KernelIdeal.nD) → Buf (Elt Ideal) ((c.tc : Thread Cert.KernelIdeal.nD Cert.KernelIdeal.τ).loc Cert.KernelIdeal.main_v99)) (v3 : (c : Dev Cert.KernelIdeal.nD) → Buf (Elt Ideal) ((c.tc : Thread Cert.KernelIdeal.nD Cert.KernelIdeal.τ).loc Cert.KernelIdeal.main_v105)) (v4 : (c : Dev Cert.KernelIdeal.nD) → Buf (Elt Ideal) ((c.tc : Thread Cert.KernelIdeal.nD Cert.KernelIdeal.τ).loc Cert.KernelIdeal.main_v106)) (v5 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_v99) = v2 c
          ∧ r.2.mem ((c.tc : Thread Cert.KernelIdeal.nD Cert.KernelIdeal.τ).loc Cert.KernelIdeal.main_v105) = v3 c
          ∧ r.2.mem ((c.tc : Thread Cert.KernelIdeal.nD Cert.KernelIdeal.τ).loc Cert.KernelIdeal.main_v106) = v4 c
          ∧ r.2.mem ((c.tc : Thread Cert.KernelIdeal.nD Cert.KernelIdeal.τ).loc Cert.KernelIdeal.main_v107) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v175) = v2 c
          ∧ r.2.mem ((c.tc : Thread Cert.ReferenceIdeal.nD Cert.ReferenceIdeal.τ).loc Cert.ReferenceIdeal.main_v189) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v113) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def algebraic_KernelIdeal_ReferenceIdeal_on_scores [hKernelIdeal : Cert.KernelIdeal.Facts] [hReferenceIdeal : Cert.ReferenceIdeal.Facts] [hOn_scores : Cert.On_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v93)) (v2 : (c : Dev Cert.KernelIdeal.nD) → Buf (Elt Ideal) ((c.tc : Thread Cert.KernelIdeal.nD Cert.KernelIdeal.τ).loc Cert.KernelIdeal.main_v99)) (v3 : (c : Dev Cert.KernelIdeal.nD) → Buf (Elt Ideal) ((c.tc : Thread Cert.KernelIdeal.nD Cert.KernelIdeal.τ).loc Cert.KernelIdeal.main_v105)) (v4 : (c : Dev Cert.KernelIdeal.nD) → Buf (Elt Ideal) ((c.tc : Thread Cert.KernelIdeal.nD Cert.KernelIdeal.τ).loc Cert.KernelIdeal.main_v106)) (v5 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 1]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 i = 1#1 → r.2.mem ((c.tc : Thread Cert.KernelIdeal.nD Cert.KernelIdeal.τ).loc Cert.KernelIdeal.main_v87) i = v0 c i)
          ∧ (∀ i : (⟨2, ![32768, 1]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 i = 1#1 → r.2.mem ((c.tc : Thread Cert.KernelIdeal.nD Cert.KernelIdeal.τ).loc Cert.KernelIdeal.main_v93) i = v1 c i)
          ∧ (∀ i : (⟨2, ![32768, 1]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 i = 1#1 → r.2.mem ((c.tc : Thread Cert.KernelIdeal.nD Cert.KernelIdeal.τ).loc Cert.KernelIdeal.main_v99) i = v2 c i)
          ∧ (∀ i : (⟨2, ![32768, 1]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 i = 1#1 → r.2.mem ((c.tc : Thread Cert.KernelIdeal.nD Cert.KernelIdeal.τ).loc Cert.KernelIdeal.main_v105) i = v3 c i)
          ∧ (∀ i : (⟨3, ![16384, 4, 128]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.1 i = 1#1 → r.2.mem ((c.tc : Thread Cert.KernelIdeal.nD Cert.KernelIdeal.τ).loc Cert.KernelIdeal.main_v106) i = v4 c i)
          ∧ (∀ i : (⟨3, ![16384, 4, 128]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2 i = 1#1 → r.2.mem ((c.tc : Thread Cert.KernelIdeal.nD Cert.KernelIdeal.τ).loc Cert.KernelIdeal.main_v107) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 1]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 i = 1#1 → r.2.mem ((c.tc : Thread Cert.ReferenceIdeal.nD Cert.ReferenceIdeal.τ).loc Cert.ReferenceIdeal.main_v147) i = v0 c i)
          ∧ (∀ i : (⟨2, ![32768, 1]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 i = 1#1 → r.2.mem ((c.tc : Thread Cert.ReferenceIdeal.nD Cert.ReferenceIdeal.τ).loc Cert.ReferenceIdeal.main_v161) i = v1 c i)
          ∧ (∀ i : (⟨2, ![32768, 1]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 i = 1#1 → r.2.mem ((c.tc : Thread Cert.ReferenceIdeal.nD Cert.ReferenceIdeal.τ).loc Cert.ReferenceIdeal.main_v175) i = v2 c i)
          ∧ (∀ i : (⟨2, ![32768, 1]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 i = 1#1 → r.2.mem ((c.tc : Thread Cert.ReferenceIdeal.nD Cert.ReferenceIdeal.τ).loc Cert.ReferenceIdeal.main_v189) i = v3 c i)
          ∧ (∀ i : (⟨3, ![16384, 4, 128]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.1 i = 1#1 → r.2.mem ((c.tc : Thread Cert.ReferenceIdeal.nD Cert.ReferenceIdeal.τ).loc Cert.ReferenceIdeal.main_v100) i = v4 c i)
          ∧ (∀ i : (⟨3, ![16384, 4, 128]⟩ : Shape).Idx, (Cert.On_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2 i = 1#1 → r.2.mem ((c.tc : Thread Cert.ReferenceIdeal.nD Cert.ReferenceIdeal.τ).loc Cert.ReferenceIdeal.main_v113) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_encoder : Cert.Pre_finite_encoder.Facts) (hOn_scores : Cert.On_scores.Facts),
    quiescent_Kernel (hKernel := hKernel)
    ∧ quiescent_KernelIdeal (hKernelIdeal := hKernelIdeal)
    ∧ quiescent_KernelIdeal_pre_finite_encoder (hKernelIdeal := hKernelIdeal) (hPre_finite_encoder := hPre_finite_encoder)
    ∧ quiescent_ReferenceIdeal (hReferenceIdeal := hReferenceIdeal)
    ∧ quiescent_ReferenceIdeal_pre_finite_encoder (hReferenceIdeal := hReferenceIdeal) (hPre_finite_encoder := hPre_finite_encoder)
    ∧ preserves_Kernel_KernelIdeal
    ∧ algebraic_KernelIdeal_ReferenceIdeal_pre_finite_encoder (hKernelIdeal := hKernelIdeal) (hReferenceIdeal := hReferenceIdeal) (hPre_finite_encoder := hPre_finite_encoder)
    ∧ algebraic_KernelIdeal_ReferenceIdeal_on_scores (hKernelIdeal := hKernelIdeal) (hReferenceIdeal := hReferenceIdeal) (hOn_scores := hOn_scores)
-- ==== On_scores.lean ====
abbrev S16384x4x128 : Shape := ⟨3, ![16384, 4, 128]⟩
abbrev S16384x4x4 : Shape := ⟨3, ![16384, 4, 4]⟩
abbrev S128x64 : Shape := ⟨2, ![128, 64]⟩
abbrev S64 : Shape := ⟨1, ![64]⟩
abbrev S1 : Shape := ⟨1, ![1]⟩
abbrev S64x128 : Shape := ⟨2, ![64, 128]⟩
abbrev S128 : Shape := ⟨1, ![128]⟩
abbrev S64x64 : Shape := ⟨2, ![64, 64]⟩
abbrev S1x64x64 : Shape := ⟨3, ![1, 64, 64]⟩
abbrev S_ : Shape := ⟨0, ![]⟩
abbrev S32768x1 : Shape := ⟨2, ![32768, 1]⟩

class Facts : Prop where
  bcast_S_S32768x1 : S_.BroadcastsInDim S32768x1 (![] : Fin 0 → Fin S32768x1.rank)
  bcast_S_S16384x4x128 : S_.BroadcastsInDim S16384x4x128 (![] : Fin 0 → Fin S16384x4x128.rank)

variable [Facts]

def fn {F : FTy → Type} [FloatOps F] (main_arg0 : FVec F S16384x4x128 .f32) (main_arg1 : FVec F S16384x4x128 .f32) (main_arg2 : FVec F S16384x4x128 .f32) (main_arg3 : FVec F S16384x4x128 .f32) (main_arg4 : FVec F S16384x4x4 .f32) (main_arg5 : FVec F S16384x4x4 .f32) (main_arg6 : FVec F S128x64 .f32) (main_arg7 : FVec F S64 .f32) (main_arg8 : FVec F S1 .f32) (main_arg9 : FVec F S64x128 .f32) (main_arg10 : FVec F S128 .f32) (main_arg11 : FVec F S1 .f32) (main_arg12 : FVec F S128x64 .f32) (main_arg13 : FVec F S64x64 .f32) (main_arg14 : FVec F S64x64 .f32) (main_arg15 : FVec F S64x64 .f32) (main_arg16 : FVec F S64 .f32) (main_arg17 : FVec F S1 .f32) (main_arg18 : FVec F S1x64x64 .f32) (main_arg19 : FVec F S1 .f32) (main_arg20 : FVec F S1x64x64 .f32) (main_arg21 : FVec F S1 .f32) (main_arg22 : FVec F S1x64x64 .f32) (main_arg23 : FVec F S1 .f32) (main_arg24 : FVec F S1x64x64 .f32) (main_arg25 : FVec F S1 .f32) : IVec S32768x1 1 × IVec S32768x1 1 × IVec S32768x1 1 × IVec S32768x1 1 × IVec S16384x4x128 1 × IVec S16384x4x128 1 :=
  let main_c : IVec S_ 1 := constantI S_ 1 1#1
  let main_v0 : IVec S32768x1 1 := broadcastInDim S32768x1 ![] bcast_S_S32768x1 main_c
  let main_c_0 : IVec S_ 1 := constantI S_ 1 0#1
  let main_v1 : IVec S16384x4x128 1 := broadcastInDim S16384x4x128 ![] bcast_S_S16384x4x128 main_c_0
  (main_v0, main_v0, main_v0, main_v0, main_v1, main_v1)
-- ==== Pre_finite_encoder.lean ====
abbrev S16384x4x128 : Shape := ⟨3, ![16384, 4, 128]⟩
abbrev S16384x4x4 : Shape := ⟨3, ![16384, 4, 4]⟩
abbrev S128x64 : Shape := ⟨2, ![128, 64]⟩
abbrev S64 : Shape := ⟨1, ![64]⟩
abbrev S1 : Shape := ⟨1, ![1]⟩
abbrev S64x128 : Shape := ⟨2, ![64, 128]⟩
abbrev S128 : Shape := ⟨1, ![128]⟩
abbrev S64x64 : Shape := ⟨2, ![64, 64]⟩
abbrev S1x64x64 : Shape := ⟨3, ![1, 64, 64]⟩
abbrev S_ : Shape := ⟨0, ![]⟩

class Facts : Prop where
  bcast_S_S16384x4x128 : S_.BroadcastsInDim S16384x4x128 (![] : Fin 0 → Fin S16384x4x128.rank)
  bcast_S_S16384x4x4 : S_.BroadcastsInDim S16384x4x4 (![] : Fin 0 → Fin S16384x4x4.rank)
  bcast_S_S64x128 : S_.BroadcastsInDim S64x128 (![] : Fin 0 → Fin S64x128.rank)
  bcast_S_S128x64 : S_.BroadcastsInDim S128x64 (![] : Fin 0 → Fin S128x64.rank)
  bcast_S_S64x64 : S_.BroadcastsInDim S64x64 (![] : Fin 0 → Fin S64x64.rank)
  bcast_S_S64 : S_.BroadcastsInDim S64 (![] : Fin 0 → Fin S64.rank)
  bcast_S_S1 : S_.BroadcastsInDim S1 (![] : Fin 0 → Fin S1.rank)

variable [Facts]

def fn_part1 {F : FTy → Type} [FloatOps F] (main_arg13 : FVec F S64x64 .f32) (main_arg14 : FVec F S64x64 .f32) (main_arg15 : FVec F S64x64 .f32) (main_arg16 : FVec F S64 .f32) (main_arg17 : FVec F S1 .f32) (main_v2 : IVec S16384x4x128 1) (main_v5 : IVec S16384x4x128 1) (main_v8 : IVec S16384x4x4 1) (main_v11 : IVec S16384x4x4 1) (main_v14 : IVec S64x128 1) (main_v17 : IVec S128x64 1) : IVec S16384x4x128 1 × IVec S16384x4x128 1 × IVec S16384x4x4 1 × IVec S16384x4x4 1 × IVec S64x128 1 × IVec S128x64 1 × IVec S64x64 1 × IVec S64x64 1 × IVec S64x64 1 × IVec S64 1 × IVec S1 1 :=
  let main_v18 : FVec F S64x64 .f32 := Host.absf main_arg13
  let main_cst_5 : FVec F S_ .f32 := constant S_ .f32 0x7F800000#32
  let main_v19 : FVec F S64x64 .f32 := broadcastInDim S64x64 ![] bcast_S_S64x64 main_cst_5
  let main_v20 : IVec S64x64 1 := cmpf .olt main_v18 main_v19
  let main_v21 : FVec F S64x64 .f32 := Host.absf main_arg14
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  let main_v24 : FVec F S64x64 .f32 := Host.absf main_arg15
  let main_cst_7 : FVec F S_ .f32 := constant S_ .f32 0x7F800000#32
  let main_v25 : FVec F S64x64 .f32 := broadcastInDim S64x64 ![] bcast_S_S64x64 main_cst_7
  let main_v26 : IVec S64x64 1 := cmpf .olt main_v24 main_v25
  let main_v27 : FVec F S64 .f32 := Host.absf main_arg16
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  let main_v30 : FVec F S1 .f32 := Host.absf main_arg17
  let main_cst_9 : FVec F S_ .f32 := constant S_ .f32 0x7F800000#32
  let main_v31 : FVec F S1 .f32 := broadcastInDim S1 ![] bcast_S_S1 main_cst_9
  let main_v32 : IVec S1 1 := cmpf .olt main_v30 main_v31
  (main_v2, main_v5, main_v8, main_v11, main_v14, main_v17, main_v20, main_v23, main_v26, main_v29, main_v32)

def fn {F : FTy → Type} [FloatOps F] (main_arg0 : FVec F S16384x4x128 .f32) (main_arg1 : FVec F S16384x4x128 .f32) (main_arg2 : FVec F S16384x4x128 .f32) (main_arg3 : FVec F S16384x4x128 .f32) (main_arg4 : FVec F S16384x4x4 .f32) (main_arg5 : FVec F S16384x4x4 .f32) (main_arg6 : FVec F S128x64 .f32) (main_arg7 : FVec F S64 .f32) (main_arg8 : FVec F S1 .f32) (main_arg9 : FVec F S64x128 .f32) (main_arg10 : FVec F S128 .f32) (main_arg11 : FVec F S1 .f32) (main_arg12 : FVec F S128x64 .f32) (main_arg13 : FVec F S64x64 .f32) (main_arg14 : FVec F S64x64 .f32) (main_arg15 : FVec F S64x64 .f32) (main_arg16 : FVec F S64 .f32) (main_arg17 : FVec F S1 .f32) (main_arg18 : FVec F S1x64x64 .f32) (main_arg19 : FVec F S1 .f32) (main_arg20 : FVec F S1x64x64 .f32) (main_arg21 : FVec F S1 .f32) (main_arg22 : FVec F S1x64x64 .f32) (main_arg23 : FVec F S1 .f32) (main_arg24 : FVec F S1x64x64 .f32) (main_arg25 : FVec F S1 .f32) : IVec S16384x4x128 1 × IVec S16384x4x128 1 × IVec S16384x4x4 1 × IVec S16384x4x4 1 × IVec S64x128 1 × IVec S128x64 1 × IVec S64x64 1 × IVec S64x64 1 × IVec S64x64 1 × IVec S64 1 × IVec S1 1 :=
  let main_v0 : FVec F S16384x4x128 .f32 := Host.absf main_arg2
  let main_cst : FVec F S_ .f32 := constant S_ .f32 0x7F800000#32
  let main_v1 : FVec F S16384x4x128 .f32 := broadcastInDim S16384x4x128 ![] bcast_S_S16384x4x128 main_cst
  let main_v2 : IVec S16384x4x128 1 := cmpf .olt main_v0 main_v1
  let main_v3 : FVec F S16384x4x128 .f32 := Host.absf main_arg3
  let main_cst_0 : FVec F S_ .f32 := constant S_ .f32 0x7F800000#32
  let main_v4 : FVec F S16384x4x128 .f32 := broadcastInDim S16384x4x128 ![] bcast_S_S16384x4x128 main_cst_0
  let main_v5 : IVec S16384x4x128 1 := cmpf .olt main_v3 main_v4
  let main_v6 : FVec F S16384x4x4 .f32 := Host.absf main_arg4
  let main_cst_1 : FVec F S_ .f32 := constant S_ .f32 0x7F800000#32
  let main_v7 : FVec F S16384x4x4 .f32 := broadcastInDim S16384x4x4 ![] bcast_S_S16384x4x4 main_cst_1
  let main_v8 : IVec S16384x4x4 1 := cmpf .olt main_v6 main_v7
  let main_v9 : FVec F S16384x4x4 .f32 := Host.absf main_arg5
  let main_cst_2 : FVec F S_ .f32 := constant S_ .f32 0x7F800000#32
  let main_v10 : FVec F S16384x4x4 .f32 := broadcastInDim S16384x4x4 ![] bcast_S_S16384x4x4 main_cst_2
  let main_v11 : IVec S16384x4x4 1 := cmpf .olt main_v9 main_v10
  let main_v12 : FVec F S64x128 .f32 := Host.absf main_arg9
  let main_cst_3 : FVec F S_ .f32 := constant S_ .f32 0x7F800000#32
  let main_v13 : FVec F S64x128 .f32 := broadcastInDim S64x128 ![] bcast_S_S64x128 main_cst_3
  let main_v14 : IVec S64x128 1 := cmpf .olt main_v12 main_v13
  let main_v15 : FVec F S128x64 .f32 := Host.absf main_arg12
  let main_cst_4 : FVec F S_ .f32 := constant S_ .f32 0x7F800000#32
  let main_v16 : FVec F S128x64 .f32 := broadcastInDim S128x64 ![] bcast_S_S128x64 main_cst_4
  let main_v17 : IVec S128x64 1 := cmpf .olt main_v15 main_v16
  fn_part1 (F := F) main_arg13 main_arg14 main_arg15 main_arg16 main_arg17 main_v2 main_v5 main_v8 main_v11 main_v14 main_v17
-- ==== Kernel.lean ====
abbrev S16384x4x128 : Shape := ⟨3, ![16384, 4, 128]⟩
abbrev S16384x4x4 : Shape := ⟨3, ![16384, 4, 4]⟩
abbrev S128x64 : Shape := ⟨2, ![128, 64]⟩
abbrev S64 : Shape := ⟨1, ![64]⟩
abbrev S1 : Shape := ⟨1, ![1]⟩
abbrev S64x128 : Shape := ⟨2, ![64, 128]⟩
abbrev S128 : Shape := ⟨1, ![128]⟩
abbrev S64x64 : Shape := ⟨2, ![64, 64]⟩
abbrev S1x64x64 : Shape := ⟨3, ![1, 64, 64]⟩
abbrev S16384x512 : Shape := ⟨2, ![16384, 512]⟩
abbrev S16384x16 : Shape := ⟨2, ![16384, 16]⟩
abbrev S1x64 : Shape := ⟨2, ![1, 64]⟩
abbrev S1x1 : Shape := ⟨2, ![1, 1]⟩
abbrev S1x128 : Shape := ⟨2, ![1, 128]⟩
abbrev S16384x8 : Shape := ⟨2, ![16384, 8]⟩
abbrev S64x8x128 : Shape := ⟨3, ![64, 8, 128]⟩
abbrev S256x512 : Shape := ⟨2, ![256, 512]⟩
abbrev S256x16 : Shape := ⟨2, ![256, 16]⟩
abbrev S256x8 : Shape := ⟨2, ![256, 8]⟩
abbrev S1x8x128 : Shape := ⟨3, ![1, 8, 128]⟩
abbrev S256x1 : Shape := ⟨2, ![256, 1]⟩
abbrev S256x64 : Shape := ⟨2, ![256, 64]⟩
abbrev S256x128 : Shape := ⟨2, ![256, 128]⟩
abbrev S64x256 : Shape := ⟨2, ![64, 256]⟩
abbrev S128x256 : Shape := ⟨2, ![128, 256]⟩
abbrev S1x256 : Shape := ⟨2, ![1, 256]⟩
abbrev S256x256 : Shape := ⟨2, ![256, 256]⟩
abbrev S128x128 : Shape := ⟨2, ![128, 128]⟩
abbrev S255x128 : Shape := ⟨2, ![255, 128]⟩
abbrev S256 : Shape := ⟨1, ![256]⟩
abbrev S8x128 : Shape := ⟨2, ![8, 128]⟩
abbrev S64x1x64 : Shape := ⟨3, ![64, 1, 64]⟩
abbrev S63x64 : Shape := ⟨2, ![63, 64]⟩
abbrev S_ : Shape := ⟨0, ![]⟩
abbrev S64x256x8 : Shape := ⟨3, ![64, 256, 8]⟩
abbrev S2 : Shape := ⟨1, ![2]⟩
abbrev S16384x1 : Shape := ⟨2, ![16384, 1]⟩
abbrev S16384 : Shape := ⟨1, ![16384]⟩
abbrev S32768 : Shape := ⟨1, ![32768]⟩
abbrev S32768x1 : Shape := ⟨2, ![32768, 1]⟩

abbrev nBuf : Space → Nat
  | .hbm => 156
  | .vmem => 40
  | .smem => 0
  | _ => 0

abbrev hbmTy0_0 (i : Nat) : BufTy := match i % 128 with
  | 0 => ⟨S16384x4x128, .f32⟩
  | 1 => ⟨S16384x4x128, .f32⟩
  | 2 => ⟨S16384x4x128, .f32⟩
  | 3 => ⟨S16384x4x128, .f32⟩
  | 4 => ⟨S16384x4x4, .f32⟩
  | 5 => ⟨S16384x4x4, .f32⟩
  | 6 => ⟨S128x64, .f32⟩
  | 7 => ⟨S64, .f32⟩
  | 8 => ⟨S1, .f32⟩
  | 9 => ⟨S64x128, .f32⟩
  | 10 => ⟨S128, .f32⟩
  | 11 => ⟨S1, .f32⟩
  | 12 => ⟨S128x64, .f32⟩
  | 13 => ⟨S64x64, .f32⟩
  | 14 => ⟨S64x64, .f32⟩
  | 15 => ⟨S64x64, .f32⟩
  | 16 => ⟨S64, .f32⟩
  | 17 => ⟨S1, .f32⟩
  | 18 => ⟨S1x64x64, .f32⟩
  | 19 => ⟨S1, .f32⟩
  | 20 => ⟨S1x64x64, .f32⟩
  | 21 => ⟨S1, .f32⟩
  | 22 => ⟨S1x64x64, .f32⟩
  | 23 => ⟨S1, .f32⟩
  | 24 => ⟨S1x64x64, .f32⟩
  | 25 => ⟨S1, .f32⟩
  | 26 => ⟨S16384x512, .f32⟩
  | 27 => ⟨S16384x512, .f32⟩
  | 28 => ⟨S16384x512, .f32⟩
  | 29 => ⟨S16384x512, .f32⟩
  | 30 => ⟨S16384x16, .f32⟩
  | 31 => ⟨S16384x16, .f32⟩
  | 32 => ⟨S1x64, .f32⟩
  | 33 => ⟨S1x1, .f32⟩
  | 34 => ⟨S1x128, .f32⟩
  | 35 => ⟨S1x1, .f32⟩
  | 36 => ⟨S1x64, .f32⟩
  | 37 => ⟨S1x1, .f32⟩
  | 38 => ⟨S64x64, .f32⟩
  | 39 => ⟨S1x1, .f32⟩
  | 40 => ⟨S64x64, .f32⟩
  | 41 => ⟨S1x1, .f32⟩
  | 42 => ⟨S64x64, .f32⟩
  | 43 => ⟨S1x1, .f32⟩
  | 44 => ⟨S64x64, .f32⟩
  | 45 => ⟨S1x1, .f32⟩
  | 46 => ⟨S16384x512, .f32⟩
  | 47 => ⟨S16384x512, .f32⟩
  | 48 => ⟨S16384x8, .f32⟩
  | 49 => ⟨S64x8x128, .f32⟩
  | 50 => ⟨S64x1x64, .f32⟩
  | 51 => ⟨S64x64, .f32⟩
  | 52 => ⟨S64x1x64, .f32⟩
  | 53 => ⟨S64x64, .f32⟩
  | 54 => ⟨S64x1x64, .f32⟩
  | 55 => ⟨S64x64, .f32⟩
  | 56 => ⟨S64x1x64, .f32⟩
  | 57 => ⟨S64x64, .f32⟩
  | 58 => ⟨S64x1x64, .f32⟩
  | 59 => ⟨S64x64, .f32⟩
  | 60 => ⟨S64x1x64, .f32⟩
  | 61 => ⟨S64x64, .f32⟩
  | 62 => ⟨S64x1x64, .f32⟩
  | 63 => ⟨S64x64, .f32⟩
  | 64 => ⟨S64x1x64, .f32⟩
  | 65 => ⟨S64x64, .f32⟩
  | 66 => ⟨S1x64, .f32⟩
  | 67 => ⟨S63x64, .f32⟩
  | 68 => ⟨S64x64, .f32⟩
  | 69 => ⟨S1x64, .f32⟩
  | 70 => ⟨S63x64, .f32⟩
  | 71 => ⟨S64x64, .f32⟩
  | 72 => ⟨S1x64, .f32⟩
  | 73 => ⟨S63x64, .f32⟩
  | 74 => ⟨S64x64, .f32⟩
  | 75 => ⟨S1x64, .f32⟩
  | 76 => ⟨S64, .f32⟩
  | 77 => ⟨S_, .i32⟩
  | 78 => ⟨S1, .i32⟩
  | 79 => ⟨S64x64, .f32⟩
  | 80 => ⟨S64x64, .f32⟩
  | 81 => ⟨S_, .f32⟩
  | 82 => ⟨S64, .f32⟩
  | 83 => ⟨S_, .f32⟩
  | 84 => ⟨S64, .f32⟩
  | 85 => ⟨S64, .f32⟩
  | 86 => ⟨S64x64, .f32⟩
  | 87 => ⟨S_, .f32⟩
  | 88 => ⟨S64, .f32⟩
  | 89 => ⟨S_, .f32⟩
  | 90 => ⟨S64, .f32⟩
  | 91 => ⟨S64, .f32⟩
  | 92 => ⟨S64x64, .f32⟩
  | 93 => ⟨S_, .f32⟩
  | 94 => ⟨S64, .f32⟩
  | 95 => ⟨S_, .f32⟩
  | 96 => ⟨S64, .f32⟩
  | 97 => ⟨S64, .f32⟩
  | 98 => ⟨S64x64, .f32⟩
  | 99 => ⟨S_, .f32⟩
  | 100 => ⟨S64, .f32⟩
  | 101 => ⟨S_, .f32⟩
  | 102 => ⟨S64, .f32⟩
  | 103 => ⟨S64, .f32⟩
  | 104 => ⟨S64x256x8, .f32⟩
  | 105 => ⟨S_, .i32⟩
  | 106 => ⟨S1, .i32⟩
  | 107 => ⟨S_, .i32⟩
  | 108 => ⟨S1, .i32⟩
  | 109 => ⟨S2, .i32⟩
  | 110 => ⟨S64x256x8, .f32⟩
  | 111 => ⟨S_, .i32⟩
  | 112 => ⟨S1, .i32⟩
  | 113 => ⟨S_, .i32⟩
  | 114 => ⟨S1, .i32⟩
  | 115 => ⟨S2, .i32⟩
  | 116 => ⟨S64x256x8, .f32⟩
  | 117 => ⟨S_, .i32⟩
  | 118 => ⟨S1, .i32⟩
  | 119 => ⟨S_, .i32⟩
  | 120 => ⟨S1, .i32⟩
  | 121 => ⟨S2, .i32⟩
  | 122 => ⟨S64x256x8, .f32⟩
  | 123 => ⟨S_, .i32⟩
  | 124 => ⟨S1, .i32⟩
  | 125 => ⟨S_, .i32⟩
  | 126 => ⟨S1, .i32⟩
  | 127 => ⟨S2, .i32⟩
  | _ => ⟨S16384x4x128, .f32⟩

abbrev hbmTy0_1 (i : Nat) : BufTy := match i % 128 with
  | 0 => ⟨S64x256x8, .f32⟩
  | 1 => ⟨S16384x8, .f32⟩
  | 2 => ⟨S16384x1, .f32⟩
  | 3 => ⟨S16384, .f32⟩
  | 4 => ⟨S16384x1, .f32⟩
  | 5 => ⟨S16384, .f32⟩
  | 6 => ⟨S32768, .f32⟩
  | 7 => ⟨S32768x1, .f32⟩
  | 8 => ⟨S16384x1, .f32⟩
  | 9 => ⟨S16384, .f32⟩
  | 10 => ⟨S16384x1, .f32⟩
  | 11 => ⟨S16384, .f32⟩
  | 12 => ⟨S32768, .f32⟩
  | 13 => ⟨S32768x1, .f32⟩
  | 14 => ⟨S16384x1, .f32⟩
  | 15 => ⟨S16384, .f32⟩
  | 16 => ⟨S16384x1, .f32⟩
  | 17 => ⟨S16384, .f32⟩
  | 18 => ⟨S32768, .f32⟩
  | 19 => ⟨S32768x1, .f32⟩
  | 20 => ⟨S16384x1, .f32⟩
  | 21 => ⟨S16384, .f32⟩
  | 22 => ⟨S16384x1, .f32⟩
  | 23 => ⟨S16384, .f32⟩
  | 24 => ⟨S32768, .f32⟩
  | 25 => ⟨S32768x1, .f32⟩
  | 26 => ⟨S16384x4x128, .f32⟩
  | 27 => ⟨S16384x4x128, .f32⟩
  | _ => ⟨S16384x4x128, .f32⟩

abbrev hbmTy (i : Nat) : BufTy := match i / 128 with
  | 0 => hbmTy0_0 i
  | 1 => hbmTy0_1 i
  | _ => ⟨S16384x4x128, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S128x64, .f32⟩
  | .local _ .vmem, ⟨13, _⟩ => ⟨S1x64, .f32⟩
  | .local _ .vmem, ⟨14, _⟩ => ⟨S1x1, .f32⟩
  | .local _ .vmem, ⟨15, _⟩ => ⟨S64x128, .f32⟩
  | .local _ .vmem, ⟨16, _⟩ => ⟨S1x128, .f32⟩
  | .local _ .vmem, ⟨17, _⟩ => ⟨S1x1, .f32⟩
  | .local _ .vmem, ⟨18, _⟩ => ⟨S128x64, .f32⟩
  | .local _ .vmem, ⟨19, _⟩ => ⟨S64x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S1x1, .f32⟩
  | .local _ .vmem, ⟨24, _⟩ => ⟨S64x64, .f32⟩
  | .local _ .vmem, ⟨25, _⟩ => ⟨S1x1, .f32⟩
  | .local _ .vmem, ⟨26, _⟩ => ⟨S64x64, .f32⟩
  | .local _ .vmem, ⟨27, _⟩ => ⟨S1x1, .f32⟩
  | .local _ .vmem, ⟨28, _⟩ => ⟨S64x64, .f32⟩
  | .local _ .vmem, ⟨29, _⟩ => ⟨S1x1, .f32⟩
  | .local _ .vmem, ⟨30, _⟩ => ⟨S64x64, .f32⟩
  | .local _ .vmem, ⟨31, _⟩ => ⟨S1x1, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x8, .f32⟩
  | .local _ .vmem, ⟨37, _⟩ => ⟨S256x8, .f32⟩
  | .local _ .vmem, ⟨38, _⟩ => ⟨S1x8x128, .f32⟩
  | .local _ .vmem, ⟨39, _⟩ => ⟨S1x8x128, .f32⟩
  | _, _ => ⟨S16384x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev main_v20_3 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call0_v0 : Ref sig .tc := ⟨.hbm, 66, rfl⟩
abbrev main_call0_v1 : Ref sig .tc := ⟨.hbm, 67, rfl⟩
abbrev main_v37 : Ref sig .tc := ⟨.hbm, 68, rfl⟩
abbrev main_call1_v0 : Ref sig .tc := ⟨.hbm, 69, rfl⟩
abbrev main_call1_v1 : Ref sig .tc := ⟨.hbm, 70, rfl⟩
abbrev main_v38 : Ref sig .tc := ⟨.hbm, 71, rfl⟩
abbrev main_call2_v0 : Ref sig .tc := ⟨.hbm, 72, rfl⟩
abbrev main_call2_v1 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_0 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_1 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_2 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_3 : Ref sig .tc := ⟨.hbm, 105, rfl⟩
abbrev main_v65 : Ref sig .tc := ⟨.hbm, 106, rfl⟩
abbrev main_c_4 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_5 : Ref sig .tc := ⟨.hbm, 111, rfl⟩
abbrev main_v69 : Ref sig .tc := ⟨.hbm, 112, rfl⟩
abbrev main_c_6 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_7 : Ref sig .tc := ⟨.hbm, 117, rfl⟩
abbrev main_v73 : Ref sig .tc := ⟨.hbm, 118, rfl⟩
abbrev main_c_8 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_9 : Ref sig .tc := ⟨.hbm, 123, rfl⟩
abbrev main_v77 : Ref sig .tc := ⟨.hbm, 124, rfl⟩
abbrev main_c_10 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_stg28_0 : Ref sig .tc := ⟨.vmem, 36, rfl⟩
abbrev cc0_stg28_1 : Ref sig .tc := ⟨.vmem, 37, rfl⟩
abbrev cc0_stg29_0 : Ref sig .tc := ⟨.vmem, 38, rfl⟩
abbrev cc0_stg29_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem26_1 : DmaSem sig := 33
abbrev cc0_sem27_0 : DmaSem sig := 34
abbrev cc0_sem27_1 : DmaSem sig := 35
abbrev cc0_sem28_0 : DmaSem sig := 36
abbrev cc0_sem28_1 : DmaSem sig := 37
abbrev cc0_sem29_0 : DmaSem sig := 38
abbrev cc0_sem29_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S64x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x8 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x8x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== KernelIdeal.lean ====
variable {F : FTy → Type} [FloatOps F] [Named F]
def κ : String → Option EReal := fun
  | "third" => some ((1 / 3 : ℝ) : EReal)
  | _ => none
-- ==== ReferenceIdeal.lean ====
abbrev S16384x4x128 : Shape := ⟨3, ![16384, 4, 128]⟩
abbrev S16384x4x4 : Shape := ⟨3, ![16384, 4, 4]⟩
abbrev S128x64 : Shape := ⟨2, ![128, 64]⟩
abbrev S64 : Shape := ⟨1, ![64]⟩
abbrev S1 : Shape := ⟨1, ![1]⟩
abbrev S64x128 : Shape := ⟨2, ![64, 128]⟩
abbrev S128 : Shape := ⟨1, ![128]⟩
abbrev S64x64 : Shape := ⟨2, ![64, 64]⟩
abbrev S1x64x64 : Shape := ⟨3, ![1, 64, 64]⟩
abbrev S16384x4x64 : Shape := ⟨3, ![16384, 4, 64]⟩
abbrev S1x1x64 : Shape := ⟨3, ![1, 1, 64]⟩
abbrev S_ : Shape := ⟨0, ![]⟩
abbrev S1x1x1 : Shape := ⟨3, ![1, 1, 1]⟩
abbrev S1x1x128 : Shape := ⟨3, ![1, 1, 128]⟩
abbrev S16384x1x64 : Shape := ⟨3, ![16384, 1, 64]⟩
abbrev S16384x64 : Shape := ⟨2, ![16384, 64]⟩
abbrev S16384x3x64 : Shape := ⟨3, ![16384, 3, 64]⟩
abbrev S1x64x16384 : Shape := ⟨3, ![1, 64, 16384]⟩
abbrev S16384x1 : Shape := ⟨2, ![16384, 1]⟩
abbrev S1x1 : Shape := ⟨2, ![1, 1]⟩
abbrev S1x64 : Shape := ⟨2, ![1, 64]⟩
abbrev S16383x64 : Shape := ⟨2, ![16383, 64]⟩
abbrev S32768x1 : Shape := ⟨2, ![32768, 1]⟩

abbrev nBuf : Space → Nat
  | .hbm => 236
  | .vmem => 0
  | .smem => 0
  | _ => 0

abbrev hbmTy0_0 (i : Nat) : BufTy := match i % 128 with
  | 0 => ⟨S16384x4x128, .f32⟩
  | 1 => ⟨S16384x4x128, .f32⟩
  | 2 => ⟨S16384x4x128, .f32⟩
  | 3 => ⟨S16384x4x128, .f32⟩
  | 4 => ⟨S16384x4x4, .f32⟩
  | 5 => ⟨S16384x4x4, .f32⟩
  | 6 => ⟨S128x64, .f32⟩
  | 7 => ⟨S64, .f32⟩
  | 8 => ⟨S1, .f32⟩
  | 9 => ⟨S64x128, .f32⟩
  | 10 => ⟨S128, .f32⟩
  | 11 => ⟨S1, .f32⟩
  | 12 => ⟨S128x64, .f32⟩
  | 13 => ⟨S64x64, .f32⟩
  | 14 => ⟨S64x64, .f32⟩
  | 15 => ⟨S64x64, .f32⟩
  | 16 => ⟨S64, .f32⟩
  | 17 => ⟨S1, .f32⟩
  | 18 => ⟨S1x64x64, .f32⟩
  | 19 => ⟨S1, .f32⟩
  | 20 => ⟨S1x64x64, .f32⟩
  | 21 => ⟨S1, .f32⟩
  | 22 => ⟨S1x64x64, .f32⟩
  | 23 => ⟨S1, .f32⟩
  | 24 => ⟨S1x64x64, .f32⟩
  | 25 => ⟨S1, .f32⟩
  | 26 => ⟨S16384x4x64, .f32⟩
  | 27 => ⟨S16384x4x64, .f32⟩
  | 28 => ⟨S1x1x64, .f32⟩
  | 29 => ⟨S16384x4x64, .f32⟩
  | 30 => ⟨S16384x4x64, .f32⟩
  | 31 => ⟨S_, .f32⟩
  | 32 => ⟨S16384x4x64, .f32⟩
  | 33 => ⟨S16384x4x64, .f32⟩
  | 34 => ⟨S_, .f32⟩
  | 35 => ⟨S16384x4x64, .f32⟩
  | 36 => ⟨S16384x4x64, .f32⟩
  | 37 => ⟨S1x1x1, .f32⟩
  | 38 => ⟨S16384x4x64, .f32⟩
  | 39 => ⟨S16384x4x64, .f32⟩
  | 40 => ⟨S16384x4x64, .f32⟩
  | 41 => ⟨S16384x4x64, .f32⟩
  | 42 => ⟨S16384x4x64, .f32⟩
  | 43 => ⟨S1x1x64, .f32⟩
  | 44 => ⟨S16384x4x64, .f32⟩
  | 45 => ⟨S16384x4x64, .f32⟩
  | 46 => ⟨S_, .f32⟩
  | 47 => ⟨S16384x4x64, .f32⟩
  | 48 => ⟨S16384x4x64, .f32⟩
  | 49 => ⟨S_, .f32⟩
  | 50 => ⟨S16384x4x64, .f32⟩
  | 51 => ⟨S16384x4x64, .f32⟩
  | 52 => ⟨S1x1x1, .f32⟩
  | 53 => ⟨S16384x4x64, .f32⟩
  | 54 => ⟨S16384x4x64, .f32⟩
  | 55 => ⟨S16384x4x64, .f32⟩
  | 56 => ⟨S16384x4x64, .f32⟩
  | 57 => ⟨S16384x4x64, .f32⟩
  | 58 => ⟨S1x1x64, .f32⟩
  | 59 => ⟨S16384x4x64, .f32⟩
  | 60 => ⟨S16384x4x64, .f32⟩
  | 61 => ⟨S_, .f32⟩
  | 62 => ⟨S16384x4x64, .f32⟩
  | 63 => ⟨S16384x4x64, .f32⟩
  | 64 => ⟨S_, .f32⟩
  | 65 => ⟨S16384x4x64, .f32⟩
  | 66 => ⟨S16384x4x64, .f32⟩
  | 67 => ⟨S1x1x1, .f32⟩
  | 68 => ⟨S16384x4x64, .f32⟩
  | 69 => ⟨S16384x4x64, .f32⟩
  | 70 => ⟨S16384x4x64, .f32⟩
  | 71 => ⟨S16384x4x64, .f32⟩
  | 72 => ⟨S16384x4x64, .f32⟩
  | 73 => ⟨S1x1x64, .f32⟩
  | 74 => ⟨S16384x4x64, .f32⟩
  | 75 => ⟨S16384x4x64, .f32⟩
  | 76 => ⟨S_, .f32⟩
  | 77 => ⟨S16384x4x64, .f32⟩
  | 78 => ⟨S16384x4x64, .f32⟩
  | 79 => ⟨S_, .f32⟩
  | 80 => ⟨S16384x4x64, .f32⟩
  | 81 => ⟨S16384x4x64, .f32⟩
  | 82 => ⟨S1x1x1, .f32⟩
  | 83 => ⟨S16384x4x64, .f32⟩
  | 84 => ⟨S16384x4x64, .f32⟩
  | 85 => ⟨S16384x4x64, .f32⟩
  | 86 => ⟨S16384x4x64, .f32⟩
  | 87 => ⟨S16384x4x64, .f32⟩
  | 88 => ⟨S16384x4x64, .f32⟩
  | 89 => ⟨S16384x4x64, .f32⟩
  | 90 => ⟨S16384x4x64, .f32⟩
  | 91 => ⟨S16384x4x64, .f32⟩
  | 92 => ⟨S16384x4x64, .f32⟩
  | 93 => ⟨S1x1x64, .f32⟩
  | 94 => ⟨S16384x4x64, .f32⟩
  | 95 => ⟨S16384x4x64, .f32⟩
  | 96 => ⟨S_, .f32⟩
  | 97 => ⟨S16384x4x64, .f32⟩
  | 98 => ⟨S16384x4x64, .f32⟩
  | 99 => ⟨S_, .f32⟩
  | 100 => ⟨S16384x4x64, .f32⟩
  | 101 => ⟨S16384x4x64, .f32⟩
  | 102 => ⟨S1x1x1, .f32⟩
  | 103 => ⟨S16384x4x64, .f32⟩
  | 104 => ⟨S16384x4x64, .f32⟩
  | 105 => ⟨S16384x4x64, .f32⟩
  | 106 => ⟨S16384x4x64, .f32⟩
  | 107 => ⟨S16384x4x64, .f32⟩
  | 108 => ⟨S16384x4x64, .f32⟩
  | 109 => ⟨S16384x4x64, .f32⟩
  | 110 => ⟨S16384x4x64, .f32⟩
  | 111 => ⟨S16384x4x64, .f32⟩
  | 112 => ⟨S16384x4x64, .f32⟩
  | 113 => ⟨S1x1x64, .f32⟩
  | 114 => ⟨S16384x4x64, .f32⟩
  | 115 => ⟨S16384x4x64, .f32⟩
  | 116 => ⟨S_, .f32⟩
  | 117 => ⟨S16384x4x64, .f32⟩
  | 118 => ⟨S16384x4x64, .f32⟩
  | 119 => ⟨S_, .f32⟩
  | 120 => ⟨S16384x4x64, .f32⟩
  | 121 => ⟨S16384x4x64, .f32⟩
  | 122 => ⟨S1x1x1, .f32⟩
  | 123 => ⟨S16384x4x64, .f32⟩
  | 124 => ⟨S16384x4x64, .f32⟩
  | 125 => ⟨S16384x4x64, .f32⟩
  | 126 => ⟨S16384x4x128, .f32⟩
  | 127 => ⟨S16384x4x128, .f32⟩
  | _ => ⟨S16384x4x128, .f32⟩

abbrev hbmTy0_1 (i : Nat) : BufTy := match i % 128 with
  | 0 => ⟨S1x1x128, .f32⟩
  | 1 => ⟨S16384x4x128, .f32⟩
  | 2 => ⟨S16384x4x128, .f32⟩
  | 3 => ⟨S_, .f32⟩
  | 4 => ⟨S16384x4x128, .f32⟩
  | 5 => ⟨S16384x4x128, .f32⟩
  | 6 => ⟨S_, .f32⟩
  | 7 => ⟨S16384x4x128, .f32⟩
  | 8 => ⟨S16384x4x128, .f32⟩
  | 9 => ⟨S1x1x1, .f32⟩
  | 10 => ⟨S16384x4x128, .f32⟩
  | 11 => ⟨S16384x4x128, .f32⟩
  | 12 => ⟨S16384x4x128, .f32⟩
  | 13 => ⟨S16384x4x128, .f32⟩
  | 14 => ⟨S16384x4x128, .f32⟩
  | 15 => ⟨S1x1x128, .f32⟩
  | 16 => ⟨S16384x4x128, .f32⟩
  | 17 => ⟨S16384x4x128, .f32⟩
  | 18 => ⟨S_, .f32⟩
  | 19 => ⟨S16384x4x128, .f32⟩
  | 20 => ⟨S16384x4x128, .f32⟩
  | 21 => ⟨S_, .f32⟩
  | 22 => ⟨S16384x4x128, .f32⟩
  | 23 => ⟨S16384x4x128, .f32⟩
  | 24 => ⟨S1x1x1, .f32⟩
  | 25 => ⟨S16384x4x128, .f32⟩
  | 26 => ⟨S16384x4x128, .f32⟩
  | 27 => ⟨S16384x4x128, .f32⟩
  | 28 => ⟨S16384x1x64, .f32⟩
  | 29 => ⟨S16384x64, .f32⟩
  | 30 => ⟨S16384x3x64, .f32⟩
  | 31 => ⟨S_, .f32⟩
  | 32 => ⟨S16384x64, .f32⟩
  | 33 => ⟨S_, .f32⟩
  | 34 => ⟨S16384x64, .f32⟩
  | 35 => ⟨S16384x64, .f32⟩
  | 36 => ⟨S16384x1x64, .f32⟩
  | 37 => ⟨S16384x64, .f32⟩
  | 38 => ⟨S16384x1x64, .f32⟩
  | 39 => ⟨S16384x64, .f32⟩
  | 40 => ⟨S16384x1x64, .f32⟩
  | 41 => ⟨S16384x64, .f32⟩
  | 42 => ⟨S16384x3x64, .f32⟩
  | 43 => ⟨S_, .f32⟩
  | 44 => ⟨S16384x64, .f32⟩
  | 45 => ⟨S_, .f32⟩
  | 46 => ⟨S16384x64, .f32⟩
  | 47 => ⟨S16384x64, .f32⟩
  | 48 => ⟨S16384x1x64, .f32⟩
  | 49 => ⟨S16384x64, .f32⟩
  | 50 => ⟨S16384x1x64, .f32⟩
  | 51 => ⟨S16384x64, .f32⟩
  | 52 => ⟨S1x64x16384, .f32⟩
  | 53 => ⟨S16384x1, .f32⟩
  | 54 => ⟨S1x1, .f32⟩
  | 55 => ⟨S16384x1, .f32⟩
  | 56 => ⟨S16384x1, .f32⟩
  | 57 => ⟨S1x64, .f32⟩
  | 58 => ⟨S16383x64, .f32⟩
  | 59 => ⟨S16384x64, .f32⟩
  | 60 => ⟨S1x64x16384, .f32⟩
  | 61 => ⟨S16384x1, .f32⟩
  | 62 => ⟨S1x1, .f32⟩
  | 63 => ⟨S16384x1, .f32⟩
  | 64 => ⟨S16384x1, .f32⟩
  | 65 => ⟨S32768x1, .f32⟩
  | 66 => ⟨S1x64x16384, .f32⟩
  | 67 => ⟨S16384x1, .f32⟩
  | 68 => ⟨S1x1, .f32⟩
  | 69 => ⟨S16384x1, .f32⟩
  | 70 => ⟨S16384x1, .f32⟩
  | 71 => ⟨S1x64, .f32⟩
  | 72 => ⟨S16383x64, .f32⟩
  | 73 => ⟨S16384x64, .f32⟩
  | 74 => ⟨S1x64x16384, .f32⟩
  | 75 => ⟨S16384x1, .f32⟩
  | 76 => ⟨S1x1, .f32⟩
  | 77 => ⟨S16384x1, .f32⟩
  | 78 => ⟨S16384x1, .f32⟩
  | 79 => ⟨S32768x1, .f32⟩
  | 80 => ⟨S1x64x16384, .f32⟩
  | 81 => ⟨S16384x1, .f32⟩
  | 82 => ⟨S1x1, .f32⟩
  | 83 => ⟨S16384x1, .f32⟩
  | 84 => ⟨S16384x1, .f32⟩
  | 85 => ⟨S1x64, .f32⟩
  | 86 => ⟨S16383x64, .f32⟩
  | 87 => ⟨S16384x64, .f32⟩
  | 88 => ⟨S1x64x16384, .f32⟩
  | 89 => ⟨S16384x1, .f32⟩
  | 90 => ⟨S1x1, .f32⟩
  | 91 => ⟨S16384x1, .f32⟩
  | 92 => ⟨S16384x1, .f32⟩
  | 93 => ⟨S32768x1, .f32⟩
  | 94 => ⟨S1x64x16384, .f32⟩
  | 95 => ⟨S16384x1, .f32⟩
  | 96 => ⟨S1x1, .f32⟩
  | 97 => ⟨S16384x1, .f32⟩
  | 98 => ⟨S16384x1, .f32⟩
  | 99 => ⟨S1x64, .f32⟩
  | 100 => ⟨S16383x64, .f32⟩
  | 101 => ⟨S16384x64, .f32⟩
  | 102 => ⟨S1x64x16384, .f32⟩
  | 103 => ⟨S16384x1, .f32⟩
  | 104 => ⟨S1x1, .f32⟩
  | 105 => ⟨S16384x1, .f32⟩
  | 106 => ⟨S16384x1, .f32⟩
  | 107 => ⟨S32768x1, .f32⟩
  | _ => ⟨S16384x4x128, .f32⟩

abbrev hbmTy (i : Nat) : BufTy := match i / 128 with
  | 0 => hbmTy0_0 i
  | 1 => hbmTy0_1 i
  | _ => ⟨S16384x4x128, .f32⟩

abbrev bufTy : (tb : Table) → Fin (tcTables nBuf tb) → BufTy
  | .hbm, ⟨i, _⟩ => hbmTy i
  | _, _ => ⟨S16384x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_3 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_v45 : Ref sig .tc := ⟨.hbm, 78, rfl⟩
abbrev main_cst_6 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_7 : Ref sig .tc := ⟨.hbm, 96, rfl⟩
abbrev main_v62 : Ref sig .tc := ⟨.hbm, 97, rfl⟩
abbrev main_v63 : Ref sig .tc := ⟨.hbm, 98, rfl⟩
abbrev main_cst_8 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_9 : Ref sig .tc := ⟨.hbm, 116, rfl⟩
abbrev main_v80 : Ref sig .tc := ⟨.hbm, 117, rfl⟩
abbrev main_v81 : Ref sig .tc := ⟨.hbm, 118, rfl⟩
abbrev main_cst_10 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_11 : Ref sig .tc := ⟨.hbm, 131, rfl⟩
abbrev main_v93 : Ref sig .tc := ⟨.hbm, 132, rfl⟩
abbrev main_v94 : Ref sig .tc := ⟨.hbm, 133, rfl⟩
abbrev main_cst_12 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_13 : Ref sig .tc := ⟨.hbm, 146, rfl⟩
abbrev main_v106 : Ref sig .tc := ⟨.hbm, 147, rfl⟩
abbrev main_v107 : Ref sig .tc := ⟨.hbm, 148, rfl⟩
abbrev main_cst_14 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_15 : Ref sig .tc := ⟨.hbm, 159, rfl⟩
abbrev main_v117 : Ref sig .tc := ⟨.hbm, 160, rfl⟩
abbrev main_cst_16 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_17 : Ref sig .tc := ⟨.hbm, 171, rfl⟩
abbrev main_v127 : Ref sig .tc := ⟨.hbm, 172, rfl⟩
abbrev main_cst_18 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩

abbrev nD : Nat := 1
abbrev τ : Topo := Topo.v7x

variable {F : FTy → Type} [FloatOps F]
-- ==== Proof.KernelIdealBody.lean ====
/- What one run of the kernel's body leaves in each output block, as a function of its input blocks. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The rectangles that the body reads and writes -/

abbrev r0 : Rect S256x16 := Rect.unit (s := S256x16) ![0, 0] S256x16.size inb_S256x16_S256x16_0_0
abbrev r1 : Rect S128x64 := Rect.unit (s := S128x64) ![0, 0] S128x64.size inb_S128x64_S128x64_0_0
abbrev r2 : Rect S1x64 := Rect.unit (s := S1x64) ![0, 0] S1x64.size inb_S1x64_S1x64_0_0
abbrev r3 : Rect S1x1 := Rect.unit (s := S1x1) ![0, 0] S1x1.size inb_S1x1_S1x1_0_0
abbrev r4 : Rect S256x512 := Rect.unit (s := S256x512) ![0, 0] S256x128.size inb_S256x512_S256x128_0_0
abbrev r5 : Rect S256x512 := Rect.unit (s := S256x512) ![0, 128] S256x128.size inb_S256x512_S256x128_0_128
abbrev r6 : Rect S256x512 := Rect.unit (s := S256x512) ![0, 256] S256x128.size inb_S256x512_S256x128_0_256
abbrev r7 : Rect S256x512 := Rect.unit (s := S256x512) ![0, 384] S256x128.size inb_S256x512_S256x128_0_384
abbrev r8 : Rect S64x64 := Rect.unit (s := S64x64) ![0, 0] S64x64.size inb_S64x64_S64x64_0_0
abbrev r9 : Rect S64x128 := Rect.unit (s := S64x128) ![0, 0] S64x128.size inb_S64x128_S64x128_0_0
abbrev r10 : Rect S1x128 := Rect.unit (s := S1x128) ![0, 0] S1x128.size inb_S1x128_S1x128_0_0
abbrev r11 : Rect S256x8 := Rect.unit (s := S256x8) ![0, 0] S256x8.size inb_S256x8_S256x8_0_0
abbrev r12 : Rect S1x8x128 := Rect.unit (s := S1x8x128) ![0, 0, 0] S1x8x128.size inb_S1x8x128_S1x8x128_0_0_0

/-! ## The values that the body binds, each named by the number of its payload -/

def p106 (x4 : Vec F S256x16 .f32) : FVec F S256x16 .f32 := k0_pay3 (View.ld x4 r0) -- `v1`
def p107 (x5 : Vec F S256x16 .f32) : FVec F S256x16 .f32 := k0_pay4 (View.ld x5 r0) -- `v3`
def p108 (x4 : Vec F S256x16 .f32) (x5 : Vec F S256x16 .f32) : FVec F S256x128 .f32 := k0_pay5 (View.ld x4 r0) (View.ld x5 r0) -- `v10`
def p109 (x4 : Vec F S256x16 .f32) (x5 : Vec F S256x16 .f32) : FVec F S256x128 .f32 := k0_pay6 (View.ld x4 r0) (View.ld x5 r0) -- `v17`
def p110 (x4 : Vec F S256x16 .f32) (x5 : Vec F S256x16 .f32) : FVec F S256x128 .f32 := k0_pay7 (View.ld x4 r0) (View.ld x5 r0) -- `v24`
def p111 (x4 : Vec F S256x16 .f32) (x5 : Vec F S256x16 .f32) : FVec F S256x128 .f32 := k0_pay8 (View.ld x4 r0) (View.ld x5 r0) -- `v31`
def p112 (x4 : Vec F S256x16 .f32) (x5 : Vec F S256x16 .f32) : FVec F S256x128 .f32 := k0_pay9 (View.ld x4 r0) (View.ld x5 r0) -- `v38`
def p113 (x4 : Vec F S256x16 .f32) (x5 : Vec F S256x16 .f32) : FVec F S256x128 .f32 := k0_pay10 (View.ld x4 r0) (View.ld x5 r0) -- `v45`
def p114 (x4 : Vec F S256x16 .f32) (x5 : Vec F S256x16 .f32) : FVec F S256x128 .f32 := k0_pay11 (View.ld x4 r0) (View.ld x5 r0) -- `v52`
def p115 (x4 : Vec F S256x16 .f32) (x5 : Vec F S256x16 .f32) : FVec F S256x128 .f32 := k0_pay13 (p107 x5) (k0_pay12 (View.ld x4 r0)) -- `v59`
def p116 (x4 : Vec F S256x16 .f32) (x5 : Vec F S256x16 .f32) : FVec F S256x128 .f32 := k0_pay14 (p106 x4) (p107 x5) -- `v66`
def p117 (x4 : Vec F S256x16 .f32) (x5 : Vec F S256x16 .f32) : FVec F S256x128 .f32 := k0_pay15 (p106 x4) (p107 x5) -- `v73`
def p118 (x4 : Vec F S256x16 .f32) (x5 : Vec F S256x16 .f32) : FVec F S256x128 .f32 := k0_pay16 (p106 x4) (p107 x5) -- `v80`
def p119 (x4 : Vec F S256x16 .f32) (x5 : Vec F S256x16 .f32) : FVec F S256x128 .f32 := k0_pay17 (p106 x4) (p107 x5) -- `v87`
def p120 (x4 : Vec F S256x16 .f32) (x5 : Vec F S256x16 .f32) : FVec F S256x128 .f32 := k0_pay18 (p106 x4) (p107 x5) -- `v94`
def p121 (x4 : Vec F S256x16 .f32) (x5 : Vec F S256x16 .f32) : FVec F S256x128 .f32 := k0_pay19 (p106 x4) (p107 x5) -- `v101`
def p122 (x4 : Vec F S256x16 .f32) (x5 : Vec F S256x16 .f32) : FVec F S256x128 .f32 := k0_pay20 (p106 x4) (p107 x5) -- `v108`
def p123 (x4 : Vec F S256x16 .f32) (x5 : Vec F S256x16 .f32) : FVec F S256x128 .f32 := k0_pay23 (k0_pay21 (p106 x4)) (k0_pay22 (p107 x5)) -- `v115`
def p124 (x7 : Vec F S1x64 .f32) : FVec F S1x128 .f32 := k0_pay24 (View.ld x7 r2) -- `v119`
def p125 (x8 : Vec F S1x1 .f32) : FVec F S1x1 .f32 := k0_pay25 (View.ld x8 r3) -- `v121`
def p126 (x0 : Vec F S256x512 .f32) (x1 : Vec F S256x512 .f32) (x6 : Vec F S128x64 .f32) : FVec F S256x128 .f32 := k0_pay26 (View.ld x6 r1) (View.ld x0 r4) (View.ld x1 r4) -- `v128`
def p127 (x0 : Vec F S256x512 .f32) (x1 : Vec F S256x512 .f32) (x6 : Vec F S128x64 .f32) : FVec F S256x128 .f32 := k0_pay27 (View.ld x6 r1) (View.ld x0 r5) (View.ld x1 r5) -- `v135`
def p128 (x0 : Vec F S256x512 .f32) (x1 : Vec F S256x512 .f32) (x6 : Vec F S128x64 .f32) : FVec F S256x128 .f32 := k0_pay28 (View.ld x6 r1) (View.ld x0 r6) (View.ld x1 r6) -- `v142`
def p129 (x0 : Vec F S256x512 .f32) (x6 : Vec F S128x64 .f32) : FVec F S256x64 .f32 := k0_pay29 (View.ld x6 r1) (View.ld x0 r7) -- `v145`
def p130 (x0 : Vec F S256x512 .f32) (x1 : Vec F S256x512 .f32) (x4 : Vec F S256x16 .f32) (x5 : Vec F S256x16 .f32) (x6 : Vec F S128x64 .f32) (x7 : Vec F S1x64 .f32) (x8 : Vec F S1x1 .f32) : FVec F S256x128 .f32 := k0_pay33 (p116 x4 x5) (p117 x4 x5) (p118 x4 x5) (p119 x4 x5) (View.ld x6 r1) (p124 x7) (p125 x8) (p126 x0 x1 x6) (p127 x0 x1 x6) (p128 x0 x1 x6) (p129 x0 x6) (View.ld x1 r7) -- `v198`
def p131 (x0 : Vec F S256x512 .f32) (x1 : Vec F S256x512 .f32) (x4 : Vec F S256x16 .f32) (x5 : Vec F S256x16 .f32) (x6 : Vec F S128x64 .f32) (x7 : Vec F S1x64 .f32) : FVec F S256x128 .f32 := k0_pay34 (p120 x4 x5) (p121 x4 x5) (p122 x4 x5) (p123 x4 x5) (View.ld x6 r1) (p124 x7) (p126 x0 x1 x6) (p127 x0 x1 x6) (p128 x0 x1 x6) (p129 x0 x6) (View.ld x1 r7) -- `v200`
def p132 (x0 : Vec F S256x512 .f32) (x1 : Vec F S256x512 .f32) (x4 : Vec F S256x16 .f32) (x5 : Vec F S256x16 .f32) (x6 : Vec F S128x64 .f32) (x7 : Vec F S1x64 .f32) (x8 : Vec F S1x1 .f32) : FVec F S256x128 .f32 := k0_pay36 (k0_pay31 (p108 x4 x5) (p109 x4 x5) (p110 x4 x5) (p111 x4 x5) (View.ld x6 r1) (p124 x7) (p125 x8) (p126 x0 x1 x6) (p127 x0 x1 x6) (p128 x0 x1 x6) (p129 x0 x6) (View.ld x1 r7)) (k0_pay32 (p112 x4 x5) (p113 x4 x5) (p114 x4 x5) (p115 x4 x5) (View.ld x6 r1) (p124 x7) (p125 x8) (p126 x0 x1 x6) (p127 x0 x1 x6) (p128 x0 x1 x6) (p129 x0 x6) (View.ld x1 r7)) (p130 x0 x1 x4 x5 x6 x7 x8) -- `v209`
def p133 (x0 : Vec F S256x512 .f32) (x1 : Vec F S256x512 .f32) (x4 : Vec F S256x16 .f32) (x5 : Vec F S256x16 .f32) (x6 : Vec F S128x64 .f32) (x7 : Vec F S1x64 .f32) (x8 : Vec F S1x1 .f32) : FVec F S256x64 .f32 := k0_pay38 (p130 x0 x1 x4 x5 x6 x7 x8) -- `v211`
def p134 (x12 : Vec F S128x64 .f32) (x13 : Vec F S64x64 .f32) (x14 : Vec F S64x64 .f32) (x15 : Vec F S64x64 .f32) : FVec F S128x64 .f32 := k0_pay39 (View.ld x12 r1) (View.ld x13 r8) (View.ld x14 r8) (View.ld x15 r8) -- `v218`
def p135 (x16 : Vec F S1x64 .f32) : FVec F S1x128 .f32 := k0_pay40 (View.ld x16 r2) -- `v221`
def p136 (x17 : Vec F S1x1 .f32) : FVec F S1x1 .f32 := k0_pay41 (View.ld x17 r3) -- `v223`
def p137 (x2 : Vec F S256x512 .f32) (x3 : Vec F S256x512 .f32) (x12 : Vec F S128x64 .f32) (x13 : Vec F S64x64 .f32) (x14 : Vec F S64x64 .f32) (x15 : Vec F S64x64 .f32) : FVec F S256x128 .f32 := k0_pay42 (View.ld x12 r1) (View.ld x13 r8) (View.ld x14 r8) (View.ld x15 r8) (View.ld x2 r4) (View.ld x3 r4) -- `v230`
def p138 (x2 : Vec F S256x512 .f32) (x12 : Vec F S128x64 .f32) (x13 : Vec F S64x64 .f32) (x14 : Vec F S64x64 .f32) (x15 : Vec F S64x64 .f32) : FVec F S256x64 .f32 := k0_pay43 (View.ld x12 r1) (View.ld x13 r8) (View.ld x14 r8) (View.ld x15 r8) (View.ld x2 r5) -- `v233`
def p139 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) : FVec F S256x128 .f32 := k0_pay47 (p108 x4 x5) (p109 x4 x5) (p110 x4 x5) (p111 x4 x5) (p134 x12 x13 x14 x15) (p137 x2 x3 x12 x13 x14 x15) (p138 x2 x12 x13 x14 x15) (View.ld x3 r5) (View.ld x2 r6) (View.ld x3 r6) (View.ld x2 r7) (View.ld x3 r7) -- `v258`
def p140 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) : FVec F S256x128 .f32 := k0_pay48 (p112 x4 x5) (p113 x4 x5) (p114 x4 x5) (p115 x4 x5) (p134 x12 x13 x14 x15) (p137 x2 x3 x12 x13 x14 x15) (p138 x2 x12 x13 x14 x15) (View.ld x3 r5) (View.ld x2 r6) (View.ld x3 r6) (View.ld x2 r7) (View.ld x3 r7) -- `v265`
def p141 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) : FVec F S256x128 .f32 := k0_pay49 (p116 x4 x5) (p117 x4 x5) (p118 x4 x5) (p119 x4 x5) (p134 x12 x13 x14 x15) (p137 x2 x3 x12 x13 x14 x15) (p138 x2 x12 x13 x14 x15) (View.ld x3 r5) (View.ld x2 r6) (View.ld x3 r6) (View.ld x2 r7) (View.ld x3 r7) -- `v272`
def p142 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) : FVec F S256x128 .f32 := k0_pay50 (p120 x4 x5) (p121 x4 x5) (p122 x4 x5) (p123 x4 x5) (p134 x12 x13 x14 x15) (p137 x2 x3 x12 x13 x14 x15) (p138 x2 x12 x13 x14 x15) (View.ld x3 r5) (View.ld x2 r6) (View.ld x3 r6) (View.ld x2 r7) (View.ld x3 r7) -- `v279`
def p143 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) : FVec F S256x128 .f32 := k0_pay51 (p108 x4 x5) (p109 x4 x5) (p110 x4 x5) (p111 x4 x5) (p134 x12 x13 x14 x15) (p137 x2 x3 x12 x13 x14 x15) (p138 x2 x12 x13 x14 x15) (View.ld x3 r5) (View.ld x2 r6) (View.ld x3 r6) (View.ld x2 r7) (View.ld x3 r7) -- `v280`
def p144 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) : FVec F S256x128 .f32 := k0_pay56 (p109 x4 x5) (p110 x4 x5) (p111 x4 x5) (p112 x4 x5) (p113 x4 x5) (p114 x4 x5) (p115 x4 x5) (p116 x4 x5) (p117 x4 x5) (p118 x4 x5) (p119 x4 x5) (p120 x4 x5) (p121 x4 x5) (p122 x4 x5) (p123 x4 x5) (p139 x2 x3 x4 x5 x12 x13 x14 x15) (p140 x2 x3 x4 x5 x12 x13 x14 x15) (p141 x2 x3 x4 x5 x12 x13 x14 x15) (p142 x2 x3 x4 x5 x12 x13 x14 x15) (p143 x2 x3 x4 x5 x12 x13 x14 x15) -- `v321`
def p145 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) : FVec F S256x128 .f32 := k0_pay57 (p109 x4 x5) (p110 x4 x5) (p111 x4 x5) (p112 x4 x5) (p113 x4 x5) (p114 x4 x5) (p115 x4 x5) (p116 x4 x5) (p117 x4 x5) (p118 x4 x5) (p119 x4 x5) (p120 x4 x5) (p121 x4 x5) (p122 x4 x5) (p123 x4 x5) (p139 x2 x3 x4 x5 x12 x13 x14 x15) (p140 x2 x3 x4 x5 x12 x13 x14 x15) (p141 x2 x3 x4 x5 x12 x13 x14 x15) (p142 x2 x3 x4 x5 x12 x13 x14 x15) (p143 x2 x3 x4 x5 x12 x13 x14 x15) -- `v328`
def p146 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) : FVec F S256x128 .f32 := k0_pay58 (p109 x4 x5) (p110 x4 x5) (p111 x4 x5) (p112 x4 x5) (p113 x4 x5) (p114 x4 x5) (p115 x4 x5) (p116 x4 x5) (p117 x4 x5) (p118 x4 x5) (p119 x4 x5) (p120 x4 x5) (p121 x4 x5) (p122 x4 x5) (p123 x4 x5) (p139 x2 x3 x4 x5 x12 x13 x14 x15) (p140 x2 x3 x4 x5 x12 x13 x14 x15) (p141 x2 x3 x4 x5 x12 x13 x14 x15) (p142 x2 x3 x4 x5 x12 x13 x14 x15) (p143 x2 x3 x4 x5 x12 x13 x14 x15) -- `v335`
def p147 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) : FVec F S256x128 .f32 := k0_pay59 (p108 x4 x5) (p109 x4 x5) (p110 x4 x5) (p111 x4 x5) (p112 x4 x5) (p113 x4 x5) (p114 x4 x5) (p115 x4 x5) (p116 x4 x5) (p117 x4 x5) (p118 x4 x5) (p119 x4 x5) (p120 x4 x5) (p121 x4 x5) (p122 x4 x5) (p123 x4 x5) (p135 x16) (p139 x2 x3 x4 x5 x12 x13 x14 x15) (p140 x2 x3 x4 x5 x12 x13 x14 x15) (p141 x2 x3 x4 x5 x12 x13 x14 x15) (p142 x2 x3 x4 x5 x12 x13 x14 x15) (p143 x2 x3 x4 x5 x12 x13 x14 x15) -- `v337`
def p148 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) : IVec S256x128 1 := k0_pay60 (p108 x4 x5) (p109 x4 x5) (p110 x4 x5) (p111 x4 x5) (p112 x4 x5) (p113 x4 x5) (p114 x4 x5) (p115 x4 x5) (p116 x4 x5) (p117 x4 x5) (p118 x4 x5) (p119 x4 x5) (p120 x4 x5) (p121 x4 x5) (p122 x4 x5) (p123 x4 x5) (p135 x16) (p139 x2 x3 x4 x5 x12 x13 x14 x15) (p140 x2 x3 x4 x5 x12 x13 x14 x15) (p141 x2 x3 x4 x5 x12 x13 x14 x15) (p142 x2 x3 x4 x5 x12 x13 x14 x15) (p143 x2 x3 x4 x5 x12 x13 x14 x15) -- `v339`
def p149 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) (x17 : Vec F S1x1 .f32) : FVec F S256x128 .f32 := k0_pay63 (p135 x16) (p136 x17) (p145 x2 x3 x4 x5 x12 x13 x14 x15) -- `v356`
def p150 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) (x17 : Vec F S1x1 .f32) : FVec F S256x128 .f32 := k0_pay64 (p135 x16) (p136 x17) (p146 x2 x3 x4 x5 x12 x13 x14 x15) -- `v363`
def p151 (x9 : Vec F S64x128 .f32) : FVec F S128x256 .f32 := k0_pay65 (View.ld x9 r9) -- `v368`
def p152 (x10 : Vec F S1x128 .f32) : FVec F S1x256 .f32 := k0_pay66 (View.ld x10 r10) -- `v371`
def p153 (x11 : Vec F S1x1 .f32) : FVec F S1x1 .f32 := k0_pay67 (View.ld x11 r3) -- `v373`
def p154 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) (x17 : Vec F S1x1 .f32) : FVec F S256x128 .f32 := k0_pay68 (p108 x4 x5) (p109 x4 x5) (p110 x4 x5) (p111 x4 x5) (p135 x16) (p136 x17) (p144 x2 x3 x4 x5 x12 x13 x14 x15) (p145 x2 x3 x4 x5 x12 x13 x14 x15) (p146 x2 x3 x4 x5 x12 x13 x14 x15) (p147 x2 x3 x4 x5 x12 x13 x14 x15 x16) (p148 x2 x3 x4 x5 x12 x13 x14 x15 x16) -- `v380`
def p155 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) (x17 : Vec F S1x1 .f32) : FVec F S256x128 .f32 := k0_pay69 (p112 x4 x5) (p113 x4 x5) (p114 x4 x5) (p115 x4 x5) (p135 x16) (p136 x17) (p144 x2 x3 x4 x5 x12 x13 x14 x15) (p145 x2 x3 x4 x5 x12 x13 x14 x15) (p146 x2 x3 x4 x5 x12 x13 x14 x15) (p147 x2 x3 x4 x5 x12 x13 x14 x15 x16) (p148 x2 x3 x4 x5 x12 x13 x14 x15 x16) -- `v387`
def p156 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) (x17 : Vec F S1x1 .f32) : FVec F S256x128 .f32 := k0_pay70 (p116 x4 x5) (p136 x17) (p147 x2 x3 x4 x5 x12 x13 x14 x15 x16) (p148 x2 x3 x4 x5 x12 x13 x14 x15 x16) -- `v388`
def p157 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) (x17 : Vec F S1x1 .f32) : FVec F S256x128 .f32 := k0_pay71 (p117 x4 x5) (p135 x16) (p136 x17) (p144 x2 x3 x4 x5 x12 x13 x14 x15) -- `v389`
def p158 (x2 : Vec F S256x512 .f32) (x3 : Vec F S256x512 .f32) (x4 : Vec F S256x16 .f32) (x5 : Vec F S256x16 .f32) (x12 : Vec F S128x64 .f32) (x13 : Vec F S64x64 .f32) (x14 : Vec F S64x64 .f32) (x15 : Vec F S64x64 .f32) (x16 : Vec F S1x64 .f32) (x17 : Vec F S1x1 .f32) : FVec F S256x128 .f32 := k0_pay72 (p120 x4 x5) (p121 x4 x5) (p122 x4 x5) (p123 x4 x5) (k0_pay61 (p136 x17) (p147 x2 x3 x4 x5 x12 x13 x14 x15 x16) (p148 x2 x3 x4 x5 x12 x13 x14 x15 x16)) (k0_pay62 (p135 x16) (p136 x17) (p144 x2 x3 x4 x5 x12 x13 x14 x15)) (p149 x2 x3 x4 x5 x12 x13 x14 x15 x16 x17) (p150 x2 x3 x4 x5 x12 x13 x14 x15 x16 x17) -- `v401`
def p159 (x2 : Vec F S256x512 .f32) (x3 : Vec F S256x512 .f32) (x4 : Vec F S256x16 .f32) (x5 : Vec F S256x16 .f32) (x9 : Vec F S64x128 .f32) (x10 : Vec F S1x128 .f32) (x12 : Vec F S128x64 .f32) (x13 : Vec F S64x64 .f32) (x14 : Vec F S64x64 .f32) (x15 : Vec F S64x64 .f32) (x16 : Vec F S1x64 .f32) (x17 : Vec F S1x1 .f32) : FVec F S256x256 .f32 := k0_pay79 (p118 x4 x5) (p119 x4 x5) (p149 x2 x3 x4 x5 x12 x13 x14 x15 x16 x17) (p150 x2 x3 x4 x5 x12 x13 x14 x15 x16 x17) (p151 x9) (p152 x10) (p156 x2 x3 x4 x5 x12 x13 x14 x15 x16 x17) (p157 x2 x3 x4 x5 x12 x13 x14 x15 x16 x17) -- `v428`
def p160 (x2 : Vec F S256x512 .f32) (x3 : Vec F S256x512 .f32) (x4 : Vec F S256x16 .f32) (x5 : Vec F S256x16 .f32) (x9 : Vec F S64x128 .f32) (x10 : Vec F S1x128 .f32) (x12 : Vec F S128x64 .f32) (x13 : Vec F S64x64 .f32) (x14 : Vec F S64x64 .f32) (x15 : Vec F S64x64 .f32) (x16 : Vec F S1x64 .f32) (x17 : Vec F S1x1 .f32) : IVec S256x256 1 := k0_pay80 (p118 x4 x5) (p119 x4 x5) (p149 x2 x3 x4 x5 x12 x13 x14 x15 x16 x17) (p150 x2 x3 x4 x5 x12 x13 x14 x15 x16 x17) (p151 x9) (p152 x10) (p156 x2 x3 x4 x5 x12 x13 x14 x15 x16 x17) (p157 x2 x3 x4 x5 x12 x13 x14 x15 x16 x17) -- `v430`
def p161 (x11 : Vec F S1x1 .f32) : FVec F S256x256 .f32 := k0_pay81 (p153 x11) -- `v431`
def p162 (x0 : Vec F S256x512 .f32) (x1 : Vec F S256x512 .f32) (x4 : Vec F S256x16 .f32) (x5 : Vec F S256x16 .f32) (x6 : Vec F S128x64 .f32) (x7 : Vec F S1x64 .f32) (x8 : Vec F S1x1 .f32) (x18 : Vec F S64x64 .f32) (x22 : Vec F S64x64 .f32) : FVec F S256x128 .f32 := k0_pay88 (k0_pay37 (p125 x8) (p131 x0 x1 x4 x5 x6 x7) (Scalar.ofBits .f32 0x00000000#32)) (View.ld x18 r8) (View.ld x22 r8) -- `v455`
def p163 (x0 : Vec F S256x512 .f32) (x1 : Vec F S256x512 .f32) (x4 : Vec F S256x16 .f32) (x5 : Vec F S256x16 .f32) (x6 : Vec F S128x64 .f32) (x7 : Vec F S1x64 .f32) (x8 : Vec F S1x1 .f32) (x20 : Vec F S64x64 .f32) (x24 : Vec F S64x64 .f32) : FVec F S256x128 .f32 := k0_pay89 (k0_pay35 (p125 x8) (p131 x0 x1 x4 x5 x6 x7) (Scalar.ofBits .f32 0x00000000#32)) (View.ld x24 r8) (View.ld x20 r8) -- `v464`
def p164 (x0 : Vec F S256x512 .f32) (x1 : Vec F S256x512 .f32) (x4 : Vec F S256x16 .f32) (x5 : Vec F S256x16 .f32) (x6 : Vec F S128x64 .f32) (x7 : Vec F S1x64 .f32) (x8 : Vec F S1x1 .f32) : FVec F S256x128 .f32 := k0_pay90 (p132 x0 x1 x4 x5 x6 x7 x8) (p133 x0 x1 x4 x5 x6 x7 x8) -- `v466`

/-! ## The output blocks -/

/-- What one run of the body leaves in its block of the first decoded array: its stores, last first. -/
def out26 (x2 : Vec F S256x512 .f32) (x3 : Vec F S256x512 .f32) (x4 : Vec F S256x16 .f32) (x5 : Vec F S256x16 .f32) (x9 : Vec F S64x128 .f32) (x10 : Vec F S1x128 .f32) (x11 : Vec F S1x1 .f32) (x12 : Vec F S128x64 .f32) (x13 : Vec F S64x64 .f32) (x14 : Vec F S64x64 .f32) (x15 : Vec F S64x64 .f32) (x16 : Vec F S1x64 .f32) (x17 : Vec F S1x1 .f32) : Vec F S256x512 .f32 :=
  View.canon [⟨r7, k0_pay86 (p151 x9) (p152 x10) (p153 x11) (p158 x2 x3 x4 x5 x12 x13 x14 x15 x16 x17)⟩,
    ⟨r6, k0_pay83 (p159 x2 x3 x4 x5 x9 x10 x12 x13 x14 x15 x16 x17) (p160 x2 x3 x4 x5 x9 x10 x12 x13 x14 x15 x16 x17) (p161 x11)⟩,
    ⟨r5, k0_pay77 (p151 x9) (p152 x10) (p153 x11) (p155 x2 x3 x4 x5 x12 x13 x14 x15 x16 x17)⟩,
    ⟨r4, k0_pay74 (p151 x9) (p152 x10) (p153 x11) (p154 x2 x3 x4 x5 x12 x13 x14 x15 x16 x17)⟩]

/-- What one run of the body leaves in its block of the second decoded array: its stores, last first. -/
def out27 (x2 : Vec F S256x512 .f32) (x3 : Vec F S256x512 .f32) (x4 : Vec F S256x16 .f32) (x5 : Vec F S256x16 .f32) (x9 : Vec F S64x128 .f32) (x10 : Vec F S1x128 .f32) (x11 : Vec F S1x1 .f32) (x12 : Vec F S128x64 .f32) (x13 : Vec F S64x64 .f32) (x14 : Vec F S64x64 .f32) (x15 : Vec F S64x64 .f32) (x16 : Vec F S1x64 .f32) (x17 : Vec F S1x1 .f32) : Vec F S256x512 .f32 :=
  View.canon [⟨r7, k0_pay87 (p151 x9) (p152 x10) (p153 x11) (p158 x2 x3 x4 x5 x12 x13 x14 x15 x16 x17)⟩,
    ⟨r6, k0_pay84 (p159 x2 x3 x4 x5 x9 x10 x12 x13 x14 x15 x16 x17) (p160 x2 x3 x4 x5 x9 x10 x12 x13 x14 x15 x16 x17) (p161 x11)⟩,
    ⟨r5, k0_pay78 (p151 x9) (p152 x10) (p153 x11) (p155 x2 x3 x4 x5 x12 x13 x14 x15 x16 x17)⟩,
    ⟨r4, k0_pay75 (p151 x9) (p152 x10) (p153 x11) (p154 x2 x3 x4 x5 x12 x13 x14 x15 x16 x17)⟩]

/-- What one run of the body leaves in its block of the score array: its stores, last first. -/
def out28 (x0 : Vec F S256x512 .f32) (x1 : Vec F S256x512 .f32) (x4 : Vec F S256x16 .f32) (x5 : Vec F S256x16 .f32) (x6 : Vec F S128x64 .f32) (x7 : Vec F S1x64 .f32) (x8 : Vec F S1x1 .f32) (x18 : Vec F S64x64 .f32) (x19 : Vec F S1x1 .f32) (x20 : Vec F S64x64 .f32) (x21 : Vec F S1x1 .f32) (x22 : Vec F S64x64 .f32) (x23 : Vec F S1x1 .f32) (x24 : Vec F S64x64 .f32) (x25 : Vec F S1x1 .f32) : Vec F S256x8 .f32 :=
  View.canon [⟨r11, k0_pay1 (k0_pay94 (p132 x0 x1 x4 x5 x6 x7 x8) (p133 x0 x1 x4 x5 x6 x7 x8) (p163 x0 x1 x4 x5 x6 x7 x8 x20 x24)) (k0_pay95 (p132 x0 x1 x4 x5 x6 x7 x8) (p133 x0 x1 x4 x5 x6 x7 x8) (p163 x0 x1 x4 x5 x6 x7 x8 x20 x24)) (k0_pay98 (View.ld x23 r3)) (k0_pay99 (View.ld x25 r3)) (k0_pay100 (p162 x0 x1 x4 x5 x6 x7 x8 x18 x22) (p164 x0 x1 x4 x5 x6 x7 x8) (View.ld x19 r3)) (k0_pay101 (p162 x0 x1 x4 x5 x6 x7 x8 x18 x22) (p164 x0 x1 x4 x5 x6 x7 x8) (View.ld x19 r3)) (k0_pay102 (p132 x0 x1 x4 x5 x6 x7 x8) (p133 x0 x1 x4 x5 x6 x7 x8) (p163 x0 x1 x4 x5 x6 x7 x8 x20 x24) (View.ld x21 r3)) (k0_pay103 (p132 x0 x1 x4 x5 x6 x7 x8) (p133 x0 x1 x4 x5 x6 x7 x8) (p163 x0 x1 x4 x5 x6 x7 x8 x20 x24) (View.ld x21 r3)) (k0_pay104 (p162 x0 x1 x4 x5 x6 x7 x8 x18 x22) (p164 x0 x1 x4 x5 x6 x7 x8) (View.ld x23 r3)) (k0_pay105 (p162 x0 x1 x4 x5 x6 x7 x8 x18 x22) (p164 x0 x1 x4 x5 x6 x7 x8))⟩]

/-- What one run of the body leaves in its block of the array of first and last rows: its stores, last first. -/
def out29 (x0 : Vec F S256x512 .f32) (x1 : Vec F S256x512 .f32) (x4 : Vec F S256x16 .f32) (x5 : Vec F S256x16 .f32) (x6 : Vec F S128x64 .f32) (x7 : Vec F S1x64 .f32) (x8 : Vec F S1x1 .f32) (x18 : Vec F S64x64 .f32) (x20 : Vec F S64x64 .f32) (x22 : Vec F S64x64 .f32) (x24 : Vec F S64x64 .f32) : Vec F S1x8x128 .f32 :=
  View.canon [⟨r12, k0_pay2 (p162 x0 x1 x4 x5 x6 x7 x8 x18 x22) (p163 x0 x1 x4 x5 x6 x7 x8 x20 x24) (p164 x0 x1 x4 x5 x6 x7 x8) (k0_pay91 (p132 x0 x1 x4 x5 x6 x7 x8) (p133 x0 x1 x4 x5 x6 x7 x8))⟩]

/-- These stores fill the block. -/
theorem cover26 (p0 : Vec F S256x128 .f32) (p1 : Vec F S256x128 .f32) (p2 : Vec F S256x128 .f32) (p3 : Vec F S256x128 .f32) (y : S256x512.Idx) :
    ∃ pc ∈ ([⟨r7, p0⟩, ⟨r6, p1⟩, ⟨r5, p2⟩, ⟨r4, p3⟩] : List (View.Piece (Elt F) S256x512 .f32)), y ∈ pc.1.set :=
  View.cover_of_tiled [⟨r7, p0⟩, ⟨r6, p1⟩, ⟨r5, p2⟩, ⟨r4, p3⟩] S256x128.size (by rfl) y

/-- These stores fill the block. -/
theorem cover27 (p0 : Vec F S256x128 .f32) (p1 : Vec F S256x128 .f32) (p2 : Vec F S256x128 .f32) (p3 : Vec F S256x128 .f32) (y : S256x512.Idx) :
    ∃ pc ∈ ([⟨r7, p0⟩, ⟨r6, p1⟩, ⟨r5, p2⟩, ⟨r4, p3⟩] : List (View.Piece (Elt F) S256x512 .f32)), y ∈ pc.1.set :=
  View.cover_of_tiled [⟨r7, p0⟩, ⟨r6, p1⟩, ⟨r5, p2⟩, ⟨r4, p3⟩] S256x128.size (by rfl) y

/-- These stores fill the block. -/
theorem cover28 (p0 : Vec F S256x8 .f32) (y : S256x8.Idx) :
    ∃ pc ∈ ([⟨r11, p0⟩] : List (View.Piece (Elt F) S256x8 .f32)), y ∈ pc.1.set :=
  View.cover_of_tiled [⟨r11, p0⟩] S256x8.size (by rfl) y

/-- These stores fill the block. -/
theorem cover29 (p0 : Vec F S1x8x128 .f32) (y : S1x8x128.Idx) :
    ∃ pc ∈ ([⟨r12, p0⟩] : List (View.Piece (Elt F) S1x8x128 .f32)), y ∈ pc.1.set :=
  View.cover_of_tiled [⟨r12, p0⟩] S1x8x128.size (by rfl) y

end Cert.KernelIdeal.Body

end
-- ==== Proof.KernelIdealRun.lean ====
/- The kernel's run: the body's triple, the proof data of the pipeline and the state in which every run ends. -/
module

public import proofs.«01_k».proof.Proof.KernelIdealBody

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the body is one straight line of some five hundred operations, run in one go
set_option maxHeartbeats 12212750 in
/-- What the body needs and what it gives back: the input blocks as they were, each output block at `outN` of them. -/
theorem sound_body_at (c : Dev nD) (E : Set ℕ) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x16 .f32) (harg5 : arg5.IsWhole) (arg6 : Memref sig .tc .vmem S256x16 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x1 .f32) (harg9 : arg9.IsWhole) (arg10 : Memref sig .tc .vmem S64x128 .f32) (harg10 : arg10.IsWhole) (arg11 : Memref sig .tc .vmem S1x128 .f32) (harg11 : arg11.IsWhole) (arg12 : Memref sig .tc .vmem S1x1 .f32) (harg12 : arg12.IsWhole) (arg13 : Memref sig .tc .vmem S128x64 .f32) (harg13 : arg13.IsWhole) (arg14 : Memref sig .tc .vmem S64x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S1x64 .f32) (harg17 : arg17.IsWhole) (arg18 : Memref sig .tc .vmem S1x1 .f32) (harg18 : arg18.IsWhole) (arg19 : Memref sig .tc .vmem S64x64 .f32) (harg19 : arg19.IsWhole) (arg20 : Memref sig .tc .vmem S1x1 .f32) (harg20 : arg20.IsWhole) (arg21 : Memref sig .tc .vmem S64x64 .f32) (harg21 : arg21.IsWhole) (arg22 : Memref sig .tc .vmem S1x1 .f32) (harg22 : arg22.IsWhole) (arg23 : Memref sig .tc .vmem S64x64 .f32) (harg23 : arg23.IsWhole) (arg24 : Memref sig .tc .vmem S1x1 .f32) (harg24 : arg24.IsWhole) (arg25 : Memref sig .tc .vmem S64x64 .f32) (harg25 : arg25.IsWhole) (arg26 : Memref sig .tc .vmem S1x1 .f32) (harg26 : arg26.IsWhole) (arg27 : Memref sig .tc .vmem S256x512 .f32) (harg27 : arg27.IsWhole) (arg28 : Memref sig .tc .vmem S256x512 .f32) (harg28 : arg28.IsWhole) (arg29 : Memref sig .tc .vmem S256x8 .f32) (harg29 : arg29.IsWhole) (arg30 : Memref sig .tc .vmem S1x8x128 .f32) (harg30 : arg30.IsWhole)
    (x0 : Vec F S256x512 .f32) (x1 : Vec F S256x512 .f32) (x2 : Vec F S256x512 .f32) (x3 : Vec F S256x512 .f32) (x4 : Vec F S256x16 .f32) (x5 : Vec F S256x16 .f32) (x6 : Vec F S128x64 .f32) (x7 : Vec F S1x64 .f32) (x8 : Vec F S1x1 .f32) (x9 : Vec F S64x128 .f32) (x10 : Vec F S1x128 .f32) (x11 : Vec F S1x1 .f32) (x12 : Vec F S128x64 .f32) (x13 : Vec F S64x64 .f32) (x14 : Vec F S64x64 .f32) (x15 : Vec F S64x64 .f32) (x16 : Vec F S1x64 .f32) (x17 : Vec F S1x1 .f32) (x18 : Vec F S64x64 .f32) (x19 : Vec F S1x1 .f32) (x20 : Vec F S64x64 .f32) (x21 : Vec F S1x1 .f32) (x22 : Vec F S64x64 .f32) (x23 : Vec F S1x1 .f32) (x24 : Vec F S64x64 .f32) (x25 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (out26 x2 x3 x4 x5 x9 x10 x11 x12 x13 x14 x15 x16 x17) ∗ owns (c : Thread nD τ) arg28 fullShare (out27 x2 x3 x4 x5 x9 x10 x11 x12 x13 x14 x15 x16 x17) ∗ owns (c : Thread nD τ) arg29 fullShare (out28 x0 x1 x4 x5 x6 x7 x8 x18 x19 x20 x21 x22 x23 x24 x25) ∗ owns (c : Thread nD τ) arg30 fullShare (out29 x0 x1 x4 x5 x6 x7 x8 x18 x20 x22 x24)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists _; isplitr
    swap; · iexact H26
    ipureintro
    refine (View.read_writes_eq_canon _ _ _ (cover26 _ _ _ _)).trans ?_
    rfl
  isplitl [H27]
  · iexists _; isplitr
    swap; · iexact H27
    ipureintro
    refine (View.read_writes_eq_canon _ _ _ (cover27 _ _ _ _)).trans ?_
    rfl
  isplitl [H28]
  · iexists _; isplitr
    swap; · iexact H28
    ipureintro
    refine (View.read_writes_eq_canon _ _ _ (cover28 _)).trans ?_
    rfl
  iexists _; isplitr
  swap; · iexact H29
  ipureintro
  refine (View.read_writes_eq_canon _ _ _ (cover29 _)).trans ?_
  rfl

variable (m : (ℓ : Loc nD τ sig) → Buf (Elt F) ℓ) (ρ : Dev nD → PrngReg)

/-- The proof data of the pipeline on core `c`: after the body at point `t` each input's buffer is at its block and each
    output's at `outN` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => out26 (iblk m c 2 t) (iblk m c 3 t) (iblk m c 4 t) (iblk m c 5 t) (iblk m c 9 t) (iblk m c 10 t) (iblk m c 11 t) (iblk m c 12 t) (iblk m c 13 t) (iblk m c 14 t) (iblk m c 15 t) (iblk m c 16 t) (iblk m c 17 t)
    | ⟨27, _⟩ => out27 (iblk m c 2 t) (iblk m c 3 t) (iblk m c 4 t) (iblk m c 5 t) (iblk m c 9 t) (iblk m c 10 t) (iblk m c 11 t) (iblk m c 12 t) (iblk m c 13 t) (iblk m c 14 t) (iblk m c 15 t) (iblk m c 16 t) (iblk m c 17 t)
    | ⟨28, _⟩ => out28 (iblk m c 0 t) (iblk m c 1 t) (iblk m c 4 t) (iblk m c 5 t) (iblk m c 6 t) (iblk m c 7 t) (iblk m c 8 t) (iblk m c 18 t) (iblk m c 19 t) (iblk m c 20 t) (iblk m c 21 t) (iblk m c 22 t) (iblk m c 23 t) (iblk m c 24 t) (iblk m c 25 t)
    | ⟨29, _⟩ => out29 (iblk m c 0 t) (iblk m c 1 t) (iblk m c 4 t) (iblk m c 5 t) (iblk m c 6 t) (iblk m c 7 t) (iblk m c 8 t) (iblk m c 18 t) (iblk m c 20 t) (iblk m c 22 t) (iblk m c 24 t)
    | ⟨_ + 30, h⟩ => absurd h (Nat.not_lt.2 (Nat.le_add_left _ _))
  Φ _ := Pipeline.ΦA spec0 c
  q _ := fullShare
  owed _ := 0

/-- The arrays are what the region finds. -/
theorem A_eq (c : Dev nD) (w : Fin cfg0.W) : (dats m 0 c).A w = V m c (Pipeline.arrRef spec0 w) := by
  dsimp only [dats]

/-! What the body leaves in each window's buffer, and what it finds in each input's. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = out26 (iblk m c 2 t) (iblk m c 3 t) (iblk m c 4 t) (iblk m c 5 t) (iblk m c 9 t) (iblk m c 10 t) (iblk m c 11 t) (iblk m c 12 t) (iblk m c 13 t) (iblk m c 14 t) (iblk m c 15 t) (iblk m c 16 t) (iblk m c 17 t) := by dsimp only [dats]
theorem after0_27 (c : Dev nD) (t : Fin cfg0.N) : (dats m 0 c).after 27 t = out27 (iblk m c 2 t) (iblk m c 3 t) (iblk m c 4 t) (iblk m c 5 t) (iblk m c 9 t) (iblk m c 10 t) (iblk m c 11 t) (iblk m c 12 t) (iblk m c 13 t) (iblk m c 14 t) (iblk m c 15 t) (iblk m c 16 t) (iblk m c 17 t) := by dsimp only [dats]
theorem after0_28 (c : Dev nD) (t : Fin cfg0.N) : (dats m 0 c).after 28 t = out28 (iblk m c 0 t) (iblk m c 1 t) (iblk m c 4 t) (iblk m c 5 t) (iblk m c 6 t) (iblk m c 7 t) (iblk m c 8 t) (iblk m c 18 t) (iblk m c 19 t) (iblk m c 20 t) (iblk m c 21 t) (iblk m c 22 t) (iblk m c 23 t) (iblk m c 24 t) (iblk m c 25 t) := by dsimp only [dats]
theorem after0_29 (c : Dev nD) (t : Fin cfg0.N) : (dats m 0 c).after 29 t = out29 (iblk m c 0 t) (iblk m c 1 t) (iblk m c 4 t) (iblk m c 5 t) (iblk m c 6 t) (iblk m c 7 t) (iblk m c 8 t) (iblk m c 18 t) (iblk m c 20 t) (iblk m c 22 t) (iblk m c 24 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

/-- The body at any point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_body_at c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]
/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame_around`'s implicit arguments are found by unifying its conclusion with this one, which takes unfolding plain
-- definitions in a metavariable's type
set_option backward.isDefEq.respectTransparency.types false in
set_option maxHeartbeats 800000 in
/-- The program runs to its end; its arrays are then what the proof data says, and no semaphore is left over. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2, hostOps1_3, hostOps1_4])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

end Cert.KernelIdeal.Body

end
-- ==== Proof.Model.lean ====
/- One row of the batch in plain mathematics, over the extended reals: how four vectors are mixed by a 4 by 4 matrix,
   multiplied by a weight, and put through a slope activation; a mean of three vectors; a bilinear score. -/
module

public import Idealize.ShloMosaic.Lib.Pointwise

@[expose] public section

noncomputable section

namespace Cert.Model

/-- The activation with slope `a`: a positive number is kept, any other is multiplied by `a`. -/
def prelu (a x : EReal) : EReal := if 0 < x then x else a * x

/-- The activation written as a sum of two halves. -/
theorem max_add_mul_min (a x : EReal) : max x 0 + a * min x 0 = prelu a x := by
  unfold prelu
  split_ifs with h
  · rw [max_eq_left h.le, min_eq_right h.le, mul_zero, add_zero]
  · rw [max_eq_right (not_lt.mp h), min_eq_left (not_lt.mp h), zero_add]

variable {n k l : ℕ}

/-- The four vectors `f` mixed by the matrix `A`. -/
def mix (A : Fin 4 → Fin 4 → EReal) (f : Fin 4 → Fin n → EReal) (i : Fin 4) (o : Fin n) : EReal :=
  A i 0 * f 0 o + A i 1 * f 1 o + A i 2 * f 2 o + A i 3 * f 3 o

/-- Rows `X` times the weight `W`. -/
def feat {r : ℕ} (X : Fin r → Fin k → EReal) (W : Fin k → Fin l → EReal) (j : Fin r) (o : Fin l) : EReal :=
  ∑ i, X j i * W i o

/-- A bias and the activation on every row. -/
def act (a : EReal) (b : Fin n → EReal) (f : Fin 4 → Fin n → EReal) (i : Fin 4) (o : Fin n) : EReal :=
  prelu a (f i o + b o)

/-- The encoder: features, mixed, with bias and activation. -/
def enc (A : Fin 4 → Fin 4 → EReal) (X : Fin 4 → Fin 128 → EReal) (W : Fin 128 → Fin 64 → EReal) (b : Fin 64 → EReal)
    (a : EReal) : Fin 4 → Fin 64 → EReal :=
  act a b (mix A (feat X W))

/-- The mean of the first three rows. -/
def mean (h : Fin 4 → Fin n → EReal) (o : Fin n) : EReal := (h 0 o + h 1 o + h 2 o) * ((1 / 3 : ℝ) : EReal)

/-- The bilinear score of `x` and `c`. -/
def score (W : Fin 64 → Fin 64 → EReal) (bb : EReal) (x c : Fin 64 → EReal) : EReal :=
  ∑ j, (∑ i, x i * W i j) * c j + bb

/-- The decoder as the kernel runs it: mixed three times under one weight, then mixed and multiplied. -/
def decK (A : Fin 4 → Fin 4 → EReal) (X : Fin 4 → Fin 128 → EReal) (W1 : Fin 128 → Fin 64 → EReal)
    (W2 W3 Wl : Fin 64 → Fin 64 → EReal) (bl : Fin 64 → EReal) (al : EReal) (Wd : Fin 64 → Fin 128 → EReal)
    (bd : Fin 128 → EReal) (ad : EReal) : Fin 4 → Fin 128 → EReal :=
  act ad bd (feat (mix A (act al bl (mix A (mix A (mix A (feat X (feat (feat (feat W1 W2) W3) Wl))))))) Wd)

/-- The decoder as the reference states it: three layers one after the other, a linear map, and a last layer. -/
def decR (A : Fin 4 → Fin 4 → EReal) (X : Fin 4 → Fin 128 → EReal) (W1 : Fin 128 → Fin 64 → EReal)
    (W2 W3 Wl : Fin 64 → Fin 64 → EReal) (bl : Fin 64 → EReal) (al : EReal) (Wd : Fin 64 → Fin 128 → EReal)
    (bd : Fin 128 → EReal) (ad : EReal) : Fin 4 → Fin 128 → EReal :=
  act ad bd (mix A (feat (act al bl (feat (mix A (feat (mix A (feat (mix A (feat X W1)) W2)) W3)) Wl)) Wd))

/-! ## On finite numbers the two decoders agree -/

/-- `mix` on the reals. -/
def mixR (A : Fin 4 → Fin 4 → ℝ) (f : Fin 4 → Fin n → ℝ) (i : Fin 4) (o : Fin n) : ℝ :=
  A i 0 * f 0 o + A i 1 * f 1 o + A i 2 * f 2 o + A i 3 * f 3 o

/-- `feat` on the reals. -/
def featR {r : ℕ} (X : Fin r → Fin k → ℝ) (W : Fin k → Fin l → ℝ) (j : Fin r) (o : Fin l) : ℝ := ∑ i, X j i * W i o

/-- A family of real numbers read as extended reals. -/
def up {r : ℕ} (f : Fin r → Fin n → ℝ) (i : Fin r) (o : Fin n) : EReal := (f i o : EReal)

/-- A finite sum of reals, read as an extended real, is the sum of the terms so read. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- On real numbers `mix` is `mixR`. -/
theorem mix_up (A : Fin 4 → Fin 4 → ℝ) (f : Fin 4 → Fin n → ℝ) : mix (up A) (up f) = up (mixR A f) := by
  funext i o
  simp only [mix, up, mixR, EReal.coe_add, EReal.coe_mul]

/-- On real numbers `feat` is `featR`. -/
theorem feat_up {r : ℕ} (X : Fin r → Fin k → ℝ) (W : Fin k → Fin l → ℝ) : feat (up X) (up W) = up (featR X W) := by
  funext i o
  simp only [feat, up, featR, coe_sum, EReal.coe_mul]

/-- Products are associative: a chain of two weights is one weight. -/
theorem featR_featR {r p : ℕ} (X : Fin r → Fin k → ℝ) (W : Fin k → Fin l → ℝ) (V : Fin l → Fin p → ℝ) :
    featR (featR X W) V = featR X (featR W V) := by
  funext i o
  simp only [featR, Finset.sum_mul, Finset.mul_sum]
  rw [Finset.sum_comm]
  simp only [mul_assoc]

/-- A weight on the columns and a mix of the rows commute. -/
theorem featR_mixR (A : Fin 4 → Fin 4 → ℝ) (f : Fin 4 → Fin k → ℝ) (W : Fin k → Fin l → ℝ) :
    featR (mixR A f) W = mixR A (featR f W) := by
  funext i o
  simp only [featR, mixR, Finset.mul_sum, ← Finset.sum_add_distrib]
  refine Finset.sum_congr rfl fun x _ => ?_
  ring

/-- The activation on the reals. -/
def actR (a : ℝ) (b : Fin n → ℝ) (f : Fin 4 → Fin n → ℝ) (i : Fin 4) (o : Fin n) : ℝ :=
  if 0 < f i o + b o then f i o + b o else a * (f i o + b o)

/-- On real numbers `act` is `actR`. -/
theorem act_up (a : ℝ) (b : Fin n → ℝ) (f : Fin 4 → Fin n → ℝ) :
    act (a : EReal) (fun o => (b o : EReal)) (up f) = up (actR a b f) := by
  funext i o
  simp only [act, up, actR, prelu, ← EReal.coe_add, ← EReal.coe_mul, EReal.coe_pos]
  split_ifs <;> rfl

/-- Where every number that the decoder multiplies is finite, the kernel's decoder is the reference's. -/
theorem decK_eq_decR (A : Fin 4 → Fin 4 → ℝ) (X : Fin 4 → Fin 128 → ℝ) (W1 : Fin 128 → Fin 64 → ℝ)
    (W2 W3 Wl : Fin 64 → Fin 64 → ℝ) (bl : Fin 64 → ℝ) (al : ℝ) (Wd : Fin 64 → Fin 128 → ℝ)
    (bd : Fin 128 → EReal) (ad : EReal) :
    decK (up A) (up X) (up W1) (up W2) (up W3) (up Wl) (fun o => (bl o : EReal)) al (up Wd) bd ad
      = decR (up A) (up X) (up W1) (up W2) (up W3) (up Wl) (fun o => (bl o : EReal)) al (up Wd) bd ad := by
  simp only [decK, decR, feat_up, mix_up, act_up, featR_mixR, featR_featR]

end Cert.Model

end
-- ==== Proof.Encoder.lean ====
/- What one block of the kernel holds, row by row: the entries of the mixing matrices spread over the lanes, the encoded
   features, and the encoder's outputs. The first 64 lanes belong to the first sequence, the last 64 to the second. -/
module

public import proofs.«01_k».proof.Proof.KernelIdealBody
public import proofs.«01_k».proof.Proof.Model
public import Idealize.ShloMosaic.Lib.Pointwise

@[expose] public section

set_option maxRecDepth 16384

noncomputable section

namespace Cert.Block

open Cert.KernelIdeal Cert.KernelIdeal.Gen Cert.KernelIdeal.Body Cert.Model
open Idealize.ShloMosaic

/-- Lane `o` of the first or of the second half. -/
def lane (s : Bool) (o : Fin 64) : Fin 128 := match s with
  | false => ⟨o, by omega⟩
  | true => ⟨64 + o, by omega⟩

/-- The first or the second of two. -/
def sel {α : Type} (s : Bool) (x y : α) : α := match s with
  | false => x
  | true => y

/-- Entry `(i, j)` of a matrix laid out in sixteen columns. -/
def at4 (i j : Fin 4) : Fin 16 := ⟨4 * i + j, by omega⟩

/-- Number `k` of vector `i` in a row of four vectors. -/
def at512 (i : Fin 4) (k : Fin 128) : Fin 512 := ⟨128 * i + k, by omega⟩

/-- The matrix in row `p` of a block. -/
def matA (x : Vec Ideal S256x16 .f32) (p : Fin 256) (i j : Fin 4) : EReal := x (ix2 p (at4 i j))

/-- The four vectors in row `p` of a block. -/
def rows (x : Vec Ideal S256x512 .f32) (p : Fin 256) (j : Fin 4) (k : Fin 128) : EReal := x (ix2 p (at512 j k))

/-- A weight of 128 rows as a function of its two indices. -/
def w128 (x : Vec Ideal S128x64 .f32) (i : Fin 128) (j : Fin 64) : EReal := x (ix2 i j)

/-- A square weight as a function of its two indices. -/
def w64 (x : Vec Ideal S64x64 .f32) (i j : Fin 64) : EReal := x (ix2 i j)

/-- The last weight as a function of its two indices. -/
def wd (x : Vec Ideal S64x128 .f32) (i : Fin 64) (j : Fin 128) : EReal := x (ix2 i j)

/-- A bias of 64 numbers. -/
def b64 (x : Vec Ideal S1x64 .f32) (o : Fin 64) : EReal := x (ix2 0 o)

/-- A bias of 128 numbers. -/
def b128 (x : Vec Ideal S1x128 .f32) (o : Fin 128) : EReal := x (ix2 0 o)

/-- A single number. -/
def one (x : Vec Ideal S1x1 .f32) : EReal := x (ix2 0 0)

variable (x0 x1 x2 x3 : Vec Ideal S256x512 .f32) (x4 x5 : Vec Ideal S256x16 .f32) (x6 : Vec Ideal S128x64 .f32)
  (x7 : Vec Ideal S1x64 .f32) (x8 : Vec Ideal S1x1 .f32) (p : Fin 256) (s : Bool) (o : Fin 64)

/-- Entry (0, 0) of both matrices, spread over the lanes. -/
theorem p108_at : p108 x4 x5 (ix2 p (lane s o)) = matA (sel s x4 x5) p 0 0 := by
  cases s <;> simp only [lane, sel, matA, at4] <;> pointwise [p108, k0_pay5, k0_pay3, k0_pay4, r0]

/-- Entry (0, 1) of both matrices, spread over the lanes. -/
theorem p109_at : p109 x4 x5 (ix2 p (lane s o)) = matA (sel s x4 x5) p 0 1 := by
  cases s <;> simp only [lane, sel, matA, at4] <;> pointwise [p109, k0_pay6, k0_pay3, k0_pay4, r0]

/-- Entry (0, 2) of both matrices, spread over the lanes. -/
theorem p110_at : p110 x4 x5 (ix2 p (lane s o)) = matA (sel s x4 x5) p 0 2 := by
  cases s <;> simp only [lane, sel, matA, at4] <;> pointwise [p110, k0_pay7, k0_pay3, k0_pay4, r0]

/-- Entry (0, 3) of both matrices, spread over the lanes. -/
theorem p111_at : p111 x4 x5 (ix2 p (lane s o)) = matA (sel s x4 x5) p 0 3 := by
  cases s <;> simp only [lane, sel, matA, at4] <;> pointwise [p111, k0_pay8, k0_pay3, k0_pay4, r0]

/-- Entry (1, 0) of both matrices, spread over the lanes. -/
theorem p112_at : p112 x4 x5 (ix2 p (lane s o)) = matA (sel s x4 x5) p 1 0 := by
  cases s <;> simp only [lane, sel, matA, at4] <;> pointwise [p112, k0_pay9, k0_pay3, k0_pay4, r0]

/-- Entry (1, 1) of both matrices, spread over the lanes. -/
theorem p113_at : p113 x4 x5 (ix2 p (lane s o)) = matA (sel s x4 x5) p 1 1 := by
  cases s <;> simp only [lane, sel, matA, at4] <;> pointwise [p113, k0_pay10, k0_pay3, k0_pay4, r0]

/-- Entry (1, 2) of both matrices, spread over the lanes. -/
theorem p114_at : p114 x4 x5 (ix2 p (lane s o)) = matA (sel s x4 x5) p 1 2 := by
  cases s <;> simp only [lane, sel, matA, at4] <;> pointwise [p114, k0_pay11, k0_pay3, k0_pay4, r0]

/-- Entry (1, 3) of both matrices, spread over the lanes. -/
theorem p115_at : p115 x4 x5 (ix2 p (lane s o)) = matA (sel s x4 x5) p 1 3 := by
  cases s <;> simp only [lane, sel, matA, at4] <;> pointwise [p115, p107, k0_pay4, k0_pay13, k0_pay12, k0_pay3, r0]

/-- Entry (2, 0) of both matrices, spread over the lanes. -/
theorem p116_at : p116 x4 x5 (ix2 p (lane s o)) = matA (sel s x4 x5) p 2 0 := by
  cases s <;> simp only [lane, sel, matA, at4] <;> pointwise [p116, k0_pay14, p106, p107, k0_pay3, k0_pay4, r0]

/-- Entry (2, 1) of both matrices, spread over the lanes. -/
theorem p117_at : p117 x4 x5 (ix2 p (lane s o)) = matA (sel s x4 x5) p 2 1 := by
  cases s <;> simp only [lane, sel, matA, at4] <;> pointwise [p117, k0_pay15, p106, p107, k0_pay3, k0_pay4, r0]

/-- Entry (2, 2) of both matrices, spread over the lanes. -/
theorem p118_at : p118 x4 x5 (ix2 p (lane s o)) = matA (sel s x4 x5) p 2 2 := by
  cases s <;> simp only [lane, sel, matA, at4] <;> pointwise [p118, k0_pay16, p106, p107, k0_pay3, k0_pay4, r0]

/-- Entry (2, 3) of both matrices, spread over the lanes. -/
theorem p119_at : p119 x4 x5 (ix2 p (lane s o)) = matA (sel s x4 x5) p 2 3 := by
  cases s <;> simp only [lane, sel, matA, at4] <;> pointwise [p119, k0_pay17, p106, p107, k0_pay3, k0_pay4, r0]

/-- Entry (3, 0) of both matrices, spread over the lanes. -/
theorem p120_at : p120 x4 x5 (ix2 p (lane s o)) = matA (sel s x4 x5) p 3 0 := by
  cases s <;> simp only [lane, sel, matA, at4] <;> pointwise [p120, k0_pay18, p106, p107, k0_pay3, k0_pay4, r0]

/-- Entry (3, 1) of both matrices, spread over the lanes. -/
theorem p121_at : p121 x4 x5 (ix2 p (lane s o)) = matA (sel s x4 x5) p 3 1 := by
  cases s <;> simp only [lane, sel, matA, at4] <;> pointwise [p121, k0_pay19, p106, p107, k0_pay3, k0_pay4, r0]

/-- Entry (3, 2) of both matrices, spread over the lanes. -/
theorem p122_at : p122 x4 x5 (ix2 p (lane s o)) = matA (sel s x4 x5) p 3 2 := by
  cases s <;> simp only [lane, sel, matA, at4] <;> pointwise [p122, k0_pay20, p106, p107, k0_pay3, k0_pay4, r0]

/-- Entry (3, 3) of both matrices, spread over the lanes. -/
theorem p123_at : p123 x4 x5 (ix2 p (lane s o)) = matA (sel s x4 x5) p 3 3 := by
  cases s <;> simp only [lane, sel, matA, at4] <;> pointwise [p123, p106, p107, k0_pay3, k0_pay4, k0_pay23, k0_pay21, k0_pay22, r0]

/-- The bias of the encoder, the same on both halves. -/
theorem p124_at : p124 x7 (ix2 0 (lane s o)) = b64 x7 o := by
  cases s <;> simp only [lane, b64] <;> pointwise [p124, k0_pay24, r2]

/-- The slope of the encoder. -/
theorem p125_at : p125 x8 (ix2 0 0) = one x8 := by
  simp only [one]; pointwise [p125, k0_pay25, r3]

/-- The features of vector 0 of both sequences. -/
theorem p126_at : p126 x0 x1 x6 (ix2 p (lane s o)) = feat (rows (sel s x0 x1) p) (w128 x6) 0 o := by
  cases s <;> simp only [lane, sel, rows, at512, feat, w128] <;> pointwise [p126, k0_pay26, r1, r4]

/-- The features of vector 1 of both sequences. -/
theorem p127_at : p127 x0 x1 x6 (ix2 p (lane s o)) = feat (rows (sel s x0 x1) p) (w128 x6) 1 o := by
  cases s <;> simp only [lane, sel, rows, at512, feat, w128] <;> pointwise [p127, k0_pay27, r1, r5]

/-- The features of vector 2 of both sequences. -/
theorem p128_at : p128 x0 x1 x6 (ix2 p (lane s o)) = feat (rows (sel s x0 x1) p) (w128 x6) 2 o := by
  cases s <;> simp only [lane, sel, rows, at512, feat, w128] <;> pointwise [p128, k0_pay28, r1, r6]

/-- The features of vector 3 of both sequences. -/
theorem feat3_at : k0_pay30 (View.ld x6 r1) (p129 x0 x6) (View.ld x1 r7) (ix2 p (lane s o))
    = feat (rows (sel s x0 x1) p) (w128 x6) 3 o := by
  cases s <;> simp only [lane, sel, rows, at512, feat, w128] <;> pointwise [k0_pay30, p129, k0_pay29, r1, r7]

/-- The encoder's four rows in row `p` of the block, for the first or the second sequence. -/
def hrow : Fin 4 → Fin 64 → EReal :=
  enc (matA (sel s x4 x5) p) (rows (sel s x0 x1) p) (w128 x6) (b64 x7) (one x8)

/-- The encoder's row 0. -/
theorem enc0_at : k0_pay31 (p108 x4 x5) (p109 x4 x5) (p110 x4 x5) (p111 x4 x5) (View.ld x6 r1) (p124 x7) (p125 x8) (p126 x0 x1 x6) (p127 x0 x1 x6) (p128 x0 x1 x6)
      (p129 x0 x6) (View.ld x1 r7) (ix2 p (lane s o)) = hrow x0 x1 x4 x5 x6 x7 x8 p s 0 o := by
  pointwise [k0_pay31]
  simp only [p108_at, p109_at, p110_at, p111_at, p124_at, p125_at, p126_at, p127_at, p128_at, feat3_at]
  rfl

/-- The encoder's row 1. -/
theorem enc1_at : k0_pay32 (p112 x4 x5) (p113 x4 x5) (p114 x4 x5) (p115 x4 x5) (View.ld x6 r1) (p124 x7) (p125 x8) (p126 x0 x1 x6) (p127 x0 x1 x6) (p128 x0 x1 x6)
      (p129 x0 x6) (View.ld x1 r7) (ix2 p (lane s o)) = hrow x0 x1 x4 x5 x6 x7 x8 p s 1 o := by
  pointwise [k0_pay32]
  simp only [p112_at, p113_at, p114_at, p115_at, p124_at, p125_at, p126_at, p127_at, p128_at, feat3_at]
  rfl

/-- The encoder's row 2. -/
theorem p130_at : p130 x0 x1 x4 x5 x6 x7 x8 (ix2 p (lane s o)) = hrow x0 x1 x4 x5 x6 x7 x8 p s 2 o := by
  pointwise [p130, k0_pay33]
  simp only [p116_at, p117_at, p118_at, p119_at, p124_at, p125_at, p126_at, p127_at, p128_at, feat3_at]
  rfl

/-- The encoder's row 3. -/
theorem enc3_at : k0_pay35 (p125 x8) (p131 x0 x1 x4 x5 x6 x7) (Scalar.ofBits .f32 0x00000000#32) (ix2 p (lane s o))
    = hrow x0 x1 x4 x5 x6 x7 x8 p s 3 o := by
  pointwise [k0_pay35, p131, k0_pay34]
  simp only [p120_at, p121_at, p122_at, p123_at, p124_at, p125_at, p126_at, p127_at, p128_at, feat3_at]
  rfl

/-- The mean of the encoder's first three rows. -/
theorem p132_at : p132 x0 x1 x4 x5 x6 x7 x8 (ix2 p (lane s o)) = mean (hrow x0 x1 x4 x5 x6 x7 x8 p s) o := by
  pointwise [p132, k0_pay36]
  rw [enc0_at, enc1_at, p130_at, IdealRules.named_const.ideal_named_scalar _ _ _ _ rfl]
  rfl

/-- The encoder's row 2 of the first sequence. -/
theorem p133_at : p133 x0 x1 x4 x5 x6 x7 x8 (ix2 p o) = hrow x0 x1 x4 x5 x6 x7 x8 p false 2 o := by
  rw [← p130_at]; pointwise [p133, k0_pay38, lane]

/-- Row 3 of the first sequence times the first and the third score weights. -/
theorem p162_at (x18 x22 : Vec Ideal S64x64 .f32) : p162 x0 x1 x4 x5 x6 x7 x8 x18 x22 (ix2 p (lane s o))
    = ∑ i, hrow x0 x1 x4 x5 x6 x7 x8 p false 3 i * w64 (sel s x18 x22) i o := by
  simp only [← enc3_at]
  cases s <;> simp only [lane, sel, w64] <;> pointwise [p162, k0_pay88, k0_pay37, r8]

/-- Row 3 of the first sequence times the fourth score weight, and of the second times the second weight. -/
theorem p163_at (x20 x24 : Vec Ideal S64x64 .f32) : p163 x0 x1 x4 x5 x6 x7 x8 x20 x24 (ix2 p (lane s o))
    = ∑ i, hrow x0 x1 x4 x5 x6 x7 x8 p s 3 i * w64 (sel s x24 x20) i o := by
  simp only [← enc3_at]
  cases s <;> simp only [lane, sel, w64] <;> pointwise [p163, k0_pay89, r8]
  all_goals simp only [mul_zero, Finset.sum_const_zero, add_zero, zero_add]

end Cert.Block

end
-- ==== Proof.Scores.lean ====
/- The score block and the block of first and last rows, entry by entry. -/
module

public import proofs.«01_k».proof.Proof.Encoder
public import Idealize.ShloMosaic.Lib.Pipeline.Value

@[expose] public section

set_option maxRecDepth 16384

noncomputable section

namespace Cert.Block

open Cert.KernelIdeal Cert.KernelIdeal.Gen Cert.KernelIdeal.Body Cert.Model
open Idealize.ShloMosaic

variable (x0 x1 : Vec Ideal S256x512 .f32) (x4 x5 : Vec Ideal S256x16 .f32) (x6 : Vec Ideal S128x64 .f32)
  (x7 : Vec Ideal S1x64 .f32) (x8 : Vec Ideal S1x1 .f32) (x18 x20 x22 x24 : Vec Ideal S64x64 .f32)
  (x19 x21 x23 x25 : Vec Ideal S1x1 .f32) (p : Fin 256) (s : Bool) (o : Fin 64)

/-- The row before `p`; the last row before the first. -/
def prev (p : Fin 256) : Fin 256 := if p = 0 then 255 else ⟨p - 1, by omega⟩

/-- The mean of the first sequence on the first lanes, its row 2 on the last. -/
theorem p164_at : p164 x0 x1 x4 x5 x6 x7 x8 (ix2 p (lane s o))
    = sel s (mean (hrow x0 x1 x4 x5 x6 x7 x8 p false) o) (hrow x0 x1 x4 x5 x6 x7 x8 p false 2 o) := by
  rw [← p132_at, ← p133_at]
  cases s <;> simp only [lane, sel] <;> pointwise [p164, k0_pay90]

/-- Row 2 of the first sequence on the first lanes, the mean of the second on the last. -/
theorem pay91_at : k0_pay91 (p132 x0 x1 x4 x5 x6 x7 x8) (p133 x0 x1 x4 x5 x6 x7 x8) (ix2 p (lane s o))
    = sel s (hrow x0 x1 x4 x5 x6 x7 x8 p false 2 o) (mean (hrow x0 x1 x4 x5 x6 x7 x8 p true) o) := by
  rw [← p132_at, ← p133_at]
  cases s <;> simp only [lane, sel] <;> pointwise [k0_pay91]

/-- Two written zeros are the zero offset of a matrix. -/
theorem zero2 : (![0, 0] : Fin 2 → ℕ) = fun _ => 0 := by funext i; fin_cases i <;> rfl

/-- Three written zeros are the zero offset of an array of rank three. -/
theorem zero3 : (![0, 0, 0] : Fin 3 → ℕ) = fun _ => 0 := by funext i; fin_cases i <;> rfl

/-- A block's row shifted down by one, the last row wrapped to the top. -/
theorem dite_prev {α : Type} (f : Fin 256 → α) (p : Fin 256) :
    (if h : (p : ℕ) < 1 then f ⟨255 + p, by omega⟩ else f ⟨p - 1, by omega⟩) = f (prev p) := by
  unfold prev
  by_cases h : (p : ℕ) < 1
  · have hp : p = 0 := Fin.ext (by omega)
    subst hp
    rfl
  · have hp : p ≠ 0 := fun e => h (by rw [e]; exact Nat.zero_lt_one)
    rw [dif_neg h, if_neg hp]

/-- The first score: row 3 against the mean of the same row. -/
theorem sc0 : out28 x0 x1 x4 x5 x6 x7 x8 x18 x19 x20 x21 x22 x23 x24 x25 (ix2 p 0)
    = score (w64 x18) (one x19) (hrow x0 x1 x4 x5 x6 x7 x8 p false 3) (mean (hrow x0 x1 x4 x5 x6 x7 x8 p false)) := by
  rw [out28, View.canon_unit_zero zero2]
  pointwise [k0_pay1, k0_pay100, k0_pay92, k0_pay96, r3]
  exact congrArg₂ (· + ·) (Finset.sum_congr rfl fun x _ => congrArg₂ (· * ·)
    (p162_at x0 x1 x4 x5 x6 x7 x8 p false x x18 x22)
    (p164_at x0 x1 x4 x5 x6 x7 x8 p false x)) rfl

/-- The first score: row 3 against the mean of the row before. -/
theorem sc1 : out28 x0 x1 x4 x5 x6 x7 x8 x18 x19 x20 x21 x22 x23 x24 x25 (ix2 p 1)
    = score (w64 x18) (one x19) (hrow x0 x1 x4 x5 x6 x7 x8 p false 3) (mean (hrow x0 x1 x4 x5 x6 x7 x8 (prev p) false)) := by
  rw [out28, View.canon_unit_zero zero2]
  pointwise [k0_pay1, k0_pay101, k0_pay93, k0_pay96, r3]
  exact congrArg₂ (· + ·) (Finset.sum_congr rfl fun x _ => congrArg₂ (· * ·)
    (p162_at x0 x1 x4 x5 x6 x7 x8 p false x x18 x22)
    ((dite_prev (fun q => p164 x0 x1 x4 x5 x6 x7 x8 (ix2 q (lane false x))) p).trans
      (p164_at x0 x1 x4 x5 x6 x7 x8 (prev p) false x))) rfl

/-- The second score: row 3 against the mean of the same row. -/
theorem sc2 : out28 x0 x1 x4 x5 x6 x7 x8 x18 x19 x20 x21 x22 x23 x24 x25 (ix2 p 2)
    = score (w64 x20) (one x21) (hrow x0 x1 x4 x5 x6 x7 x8 p true 3) (mean (hrow x0 x1 x4 x5 x6 x7 x8 p true)) := by
  rw [out28, View.canon_unit_zero zero2]
  pointwise [k0_pay1, k0_pay102, k0_pay94, k0_pay97, r3]
  exact congrArg₂ (· + ·) (Finset.sum_congr rfl fun x _ => congrArg₂ (· * ·)
    (p163_at x0 x1 x4 x5 x6 x7 x8 p true x x20 x24)
    (pay91_at x0 x1 x4 x5 x6 x7 x8 p true x)) rfl

/-- The second score: row 3 against the mean of the row before. -/
theorem sc3 : out28 x0 x1 x4 x5 x6 x7 x8 x18 x19 x20 x21 x22 x23 x24 x25 (ix2 p 3)
    = score (w64 x20) (one x21) (hrow x0 x1 x4 x5 x6 x7 x8 p true 3) (mean (hrow x0 x1 x4 x5 x6 x7 x8 (prev p) true)) := by
  rw [out28, View.canon_unit_zero zero2]
  pointwise [k0_pay1, k0_pay103, k0_pay95, k0_pay97, r3]
  exact congrArg₂ (· + ·) (Finset.sum_congr rfl fun x _ => congrArg₂ (· * ·)
    (p163_at x0 x1 x4 x5 x6 x7 x8 p true x x20 x24)
    ((dite_prev (fun q => k0_pay91 (p132 x0 x1 x4 x5 x6 x7 x8) (p133 x0 x1 x4 x5 x6 x7 x8) (ix2 q (lane true x))) p).trans
      (pay91_at x0 x1 x4 x5 x6 x7 x8 (prev p) true x))) rfl

/-- The third score: row 3 against row 2 of the same row. -/
theorem sc4 : out28 x0 x1 x4 x5 x6 x7 x8 x18 x19 x20 x21 x22 x23 x24 x25 (ix2 p 4)
    = score (w64 x22) (one x23) (hrow x0 x1 x4 x5 x6 x7 x8 p false 3) (hrow x0 x1 x4 x5 x6 x7 x8 p false 2) := by
  rw [out28, View.canon_unit_zero zero2]
  pointwise [k0_pay1, k0_pay104, k0_pay92, k0_pay98, r3]
  exact congrArg₂ (· + ·) (Finset.sum_congr rfl fun x _ => congrArg₂ (· * ·)
    (p162_at x0 x1 x4 x5 x6 x7 x8 p true x x18 x22)
    (p164_at x0 x1 x4 x5 x6 x7 x8 p true x)) rfl

/-- The third score: row 3 against row 2 of the row before. -/
theorem sc5 : out28 x0 x1 x4 x5 x6 x7 x8 x18 x19 x20 x21 x22 x23 x24 x25 (ix2 p 5)
    = score (w64 x22) (one x23) (hrow x0 x1 x4 x5 x6 x7 x8 p false 3) (hrow x0 x1 x4 x5 x6 x7 x8 (prev p) false 2) := by
  rw [out28, View.canon_unit_zero zero2]
  pointwise [k0_pay1, k0_pay105, k0_pay93, k0_pay98, r3]
  exact congrArg₂ (· + ·) (Finset.sum_congr rfl fun x _ => congrArg₂ (· * ·)
    (p162_at x0 x1 x4 x5 x6 x7 x8 p true x x18 x22)
    ((dite_prev (fun q => p164 x0 x1 x4 x5 x6 x7 x8 (ix2 q (lane true x))) p).trans
      (p164_at x0 x1 x4 x5 x6 x7 x8 (prev p) true x))) rfl

/-- The fourth score: row 3 against row 2 of the same row. -/
theorem sc6 : out28 x0 x1 x4 x5 x6 x7 x8 x18 x19 x20 x21 x22 x23 x24 x25 (ix2 p 6)
    = score (w64 x24) (one x25) (hrow x0 x1 x4 x5 x6 x7 x8 p false 3) (hrow x0 x1 x4 x5 x6 x7 x8 p false 2) := by
  rw [out28, View.canon_unit_zero zero2]
  pointwise [k0_pay1, k0_pay94, k0_pay99, r3]
  exact congrArg₂ (· + ·) (Finset.sum_congr rfl fun x _ => congrArg₂ (· * ·)
    (p163_at x0 x1 x4 x5 x6 x7 x8 p false x x20 x24)
    (pay91_at x0 x1 x4 x5 x6 x7 x8 p false x)) rfl

/-- The fourth score: row 3 against row 2 of the row before. -/
theorem sc7 : out28 x0 x1 x4 x5 x6 x7 x8 x18 x19 x20 x21 x22 x23 x24 x25 (ix2 p 7)
    = score (w64 x24) (one x25) (hrow x0 x1 x4 x5 x6 x7 x8 p false 3) (hrow x0 x1 x4 x5 x6 x7 x8 (prev p) false 2) := by
  rw [out28, View.canon_unit_zero zero2]
  pointwise [k0_pay1, k0_pay95, k0_pay99, r3]
  exact congrArg₂ (· + ·) (Finset.sum_congr rfl fun x _ => congrArg₂ (· * ·)
    (p163_at x0 x1 x4 x5 x6 x7 x8 p false x x20 x24)
    ((dite_prev (fun q => k0_pay91 (p132 x0 x1 x4 x5 x6 x7 x8) (p133 x0 x1 x4 x5 x6 x7 x8) (ix2 q (lane false x))) p).trans
      (pay91_at x0 x1 x4 x5 x6 x7 x8 (prev p) false x))) rfl

/-- Entry 0 of the block of first and last rows: row 3 of row 0 times the first and third weights. -/
theorem ex0 : out29 x0 x1 x4 x5 x6 x7 x8 x18 x20 x22 x24 (ix3 0 0 (lane s o))
    = ∑ i, hrow x0 x1 x4 x5 x6 x7 x8 0 false 3 i * w64 (sel s x18 x22) i o := by
  rw [out29, View.canon_unit_zero zero3]
  pointwise [k0_pay2]
  exact p162_at x0 x1 x4 x5 x6 x7 x8 0 s o x18 x22

/-- Entry 1 of the block of first and last rows: row 3 of row 0 times the fourth and second weights. -/
theorem ex1 : out29 x0 x1 x4 x5 x6 x7 x8 x18 x20 x22 x24 (ix3 0 1 (lane s o))
    = ∑ i, hrow x0 x1 x4 x5 x6 x7 x8 0 s 3 i * w64 (sel s x24 x20) i o := by
  rw [out29, View.canon_unit_zero zero3]
  pointwise [k0_pay2]
  exact p163_at x0 x1 x4 x5 x6 x7 x8 0 s o x20 x24

/-- Entry 2 of the block of first and last rows: mean and row 2 of the last row. -/
theorem ex2 : out29 x0 x1 x4 x5 x6 x7 x8 x18 x20 x22 x24 (ix3 0 2 (lane s o))
    = sel s (mean (hrow x0 x1 x4 x5 x6 x7 x8 255 false) o) (hrow x0 x1 x4 x5 x6 x7 x8 255 false 2 o) := by
  rw [out29, View.canon_unit_zero zero3]
  pointwise [k0_pay2]
  exact p164_at x0 x1 x4 x5 x6 x7 x8 255 s o

/-- Entry 3 of the block of first and last rows: row 2 of the last row, and the mean of the second sequence. -/
theorem ex3 : out29 x0 x1 x4 x5 x6 x7 x8 x18 x20 x22 x24 (ix3 0 3 (lane s o))
    = sel s (hrow x0 x1 x4 x5 x6 x7 x8 255 false 2 o) (mean (hrow x0 x1 x4 x5 x6 x7 x8 255 true) o) := by
  rw [out29, View.canon_unit_zero zero3]
  pointwise [k0_pay2]
  exact pay91_at x0 x1 x4 x5 x6 x7 x8 255 s o

/-- Entry 4 of the block of first and last rows: mean and row 2 of the last row but one. -/
theorem ex4 : out29 x0 x1 x4 x5 x6 x7 x8 x18 x20 x22 x24 (ix3 0 4 (lane s o))
    = sel s (mean (hrow x0 x1 x4 x5 x6 x7 x8 254 false) o) (hrow x0 x1 x4 x5 x6 x7 x8 254 false 2 o) := by
  rw [out29, View.canon_unit_zero zero3]
  pointwise [k0_pay2]
  exact p164_at x0 x1 x4 x5 x6 x7 x8 254 s o

end Cert.Block

end
-- ==== Proof.Decoder.lean ====
/- The decoder's blocks, row by row: one weight in place of a chain of four, three mixes, the activation, a last mix and
   the output weight. The first 64 lanes belong to the third sequence, the last 64 to the fourth. -/
module

public import proofs.«01_k».proof.Proof.Encoder

@[expose] public section

set_option maxRecDepth 16384

noncomputable section

namespace Cert.Block

open Cert.KernelIdeal Cert.KernelIdeal.Gen Cert.KernelIdeal.Body Cert.Model
open Idealize.ShloMosaic

variable (x2 x3 : Vec Ideal S256x512 .f32) (x4 x5 : Vec Ideal S256x16 .f32) (x9 : Vec Ideal S64x128 .f32)
  (x10 : Vec Ideal S1x128 .f32) (x11 : Vec Ideal S1x1 .f32) (x12 : Vec Ideal S128x64 .f32)
  (x13 x14 x15 : Vec Ideal S64x64 .f32) (x16 : Vec Ideal S1x64 .f32) (x17 : Vec Ideal S1x1 .f32)
  (p : Fin 256) (s : Bool) (o : Fin 64)

/-- The four weights of the decoder's layers, multiplied together. -/
def wc : Fin 128 → Fin 64 → EReal := feat (feat (feat (w128 x12) (w64 x13)) (w64 x14)) (w64 x15)

/-- The weights' product. -/
theorem pay39_at (i : Fin 128) : k0_pay39 (View.ld x12 r1) (View.ld x13 r8) (View.ld x14 r8) (View.ld x15 r8) (ix2 i o)
    = wc x12 x13 x14 x15 i o := by
  simp only [wc, feat, w128, w64]
  pointwise [k0_pay39, r1, r8]

/-- The decoder's features of row `p`. -/
def gp : Fin 4 → Fin 64 → EReal := feat (rows (sel s x2 x3) p) (wc x12 x13 x14 x15)

/-- The features mixed once. -/
def g1 : Fin 4 → Fin 64 → EReal := mix (matA (sel s x4 x5) p) (gp x2 x3 x12 x13 x14 x15 p s)

/-- The features mixed twice. -/
def g2 : Fin 4 → Fin 64 → EReal := mix (matA (sel s x4 x5) p) (g1 x2 x3 x4 x5 x12 x13 x14 x15 p s)

/-- The features mixed three times. -/
def g3 : Fin 4 → Fin 64 → EReal := mix (matA (sel s x4 x5) p) (g2 x2 x3 x4 x5 x12 x13 x14 x15 p s)

/-- The hidden rows: mixed three times, with bias and activation. -/
def g4 : Fin 4 → Fin 64 → EReal := act (one x17) (b64 x16) (g3 x2 x3 x4 x5 x12 x13 x14 x15 p s)

/-- The hidden rows mixed. -/
def g5 : Fin 4 → Fin 64 → EReal := mix (matA (sel s x4 x5) p) (g4 x2 x3 x4 x5 x12 x13 x14 x15 x16 x17 p s)

/-- Features of vector 0. -/
theorem p137_at : p137 x2 x3 x12 x13 x14 x15 (ix2 p (lane s o)) = gp x2 x3 x12 x13 x14 x15 p s 0 o := by
  simp only [gp, feat, ← pay39_at]
  cases s <;> simp only [lane, sel, rows, at512] <;> pointwise [p137, k0_pay42, r4]

/-- Features of vector 1. -/
theorem gp1_at : k0_pay44 (p134 x12 x13 x14 x15) (p138 x2 x12 x13 x14 x15) (View.ld x3 r5) (ix2 p (lane s o)) = gp x2 x3 x12 x13 x14 x15 p s 1 o := by
  simp only [gp, feat, ← pay39_at]
  cases s <;> simp only [lane, sel, rows, at512] <;> pointwise [k0_pay44, p134, p138, k0_pay43, r5]

/-- Features of vector 2. -/
theorem gp2_at : k0_pay45 (p134 x12 x13 x14 x15) (View.ld x2 r6) (View.ld x3 r6) (ix2 p (lane s o)) = gp x2 x3 x12 x13 x14 x15 p s 2 o := by
  simp only [gp, feat, ← pay39_at]
  cases s <;> simp only [lane, sel, rows, at512] <;> pointwise [k0_pay45, p134, r6]

/-- Features of vector 3. -/
theorem gp3_at : k0_pay46 (p134 x12 x13 x14 x15) (View.ld x2 r7) (View.ld x3 r7) (ix2 p (lane s o)) = gp x2 x3 x12 x13 x14 x15 p s 3 o := by
  simp only [gp, feat, ← pay39_at]
  cases s <;> simp only [lane, sel, rows, at512] <;> pointwise [k0_pay46, p134, r7]

/-- Row 0 after one mix. -/
theorem p139_at : p139 x2 x3 x4 x5 x12 x13 x14 x15 (ix2 p (lane s o)) = g1 x2 x3 x4 x5 x12 x13 x14 x15 p s 0 o := by
  pointwise [p139, k0_pay47]
  simp only [p108_at, p109_at, p110_at, p111_at, p137_at, gp1_at, gp2_at, gp3_at]
  rfl

/-- Row 1 after one mix. -/
theorem p140_at : p140 x2 x3 x4 x5 x12 x13 x14 x15 (ix2 p (lane s o)) = g1 x2 x3 x4 x5 x12 x13 x14 x15 p s 1 o := by
  pointwise [p140, k0_pay48]
  simp only [p112_at, p113_at, p114_at, p115_at, p137_at, gp1_at, gp2_at, gp3_at]
  rfl

/-- Row 2 after one mix. -/
theorem p141_at : p141 x2 x3 x4 x5 x12 x13 x14 x15 (ix2 p (lane s o)) = g1 x2 x3 x4 x5 x12 x13 x14 x15 p s 2 o := by
  pointwise [p141, k0_pay49]
  simp only [p116_at, p117_at, p118_at, p119_at, p137_at, gp1_at, gp2_at, gp3_at]
  rfl

/-- Row 3 after one mix. -/
theorem p142_at : p142 x2 x3 x4 x5 x12 x13 x14 x15 (ix2 p (lane s o)) = g1 x2 x3 x4 x5 x12 x13 x14 x15 p s 3 o := by
  pointwise [p142, k0_pay50]
  simp only [p120_at, p121_at, p122_at, p123_at, p137_at, gp1_at, gp2_at, gp3_at]
  rfl

/-- The first product of row 0 of the second mix. -/
theorem p143_at : p143 x2 x3 x4 x5 x12 x13 x14 x15 (ix2 p (lane s o)) = matA (sel s x4 x5) p 0 0 * g1 x2 x3 x4 x5 x12 x13 x14 x15 p s 0 o := by
  rw [← p139_at, ← p108_at x4 x5 p s o]
  pointwise [p143, k0_pay51, p139]

/-- Row 0 after two mixes. -/
theorem g2_0_at : k0_pay52 (p109 x4 x5) (p110 x4 x5) (p111 x4 x5) (p140 x2 x3 x4 x5 x12 x13 x14 x15) (p141 x2 x3 x4 x5 x12 x13 x14 x15) (p142 x2 x3 x4 x5 x12 x13 x14 x15) (p143 x2 x3 x4 x5 x12 x13 x14 x15) (ix2 p (lane s o)) = g2 x2 x3 x4 x5 x12 x13 x14 x15 p s 0 o := by
  pointwise [k0_pay52]
  simp only [p108_at, p109_at, p110_at, p111_at, p139_at, p140_at, p141_at, p142_at, p143_at]
  rfl

/-- Row 1 after two mixes. -/
theorem g2_1_at : k0_pay53 (p112 x4 x5) (p113 x4 x5) (p114 x4 x5) (p115 x4 x5) (p139 x2 x3 x4 x5 x12 x13 x14 x15) (p140 x2 x3 x4 x5 x12 x13 x14 x15) (p141 x2 x3 x4 x5 x12 x13 x14 x15) (p142 x2 x3 x4 x5 x12 x13 x14 x15) (ix2 p (lane s o)) = g2 x2 x3 x4 x5 x12 x13 x14 x15 p s 1 o := by
  pointwise [k0_pay53]
  simp only [p112_at, p113_at, p114_at, p115_at, p139_at, p140_at, p141_at, p142_at, p143_at]
  rfl

/-- Row 2 after two mixes. -/
theorem g2_2_at : k0_pay54 (p116 x4 x5) (p117 x4 x5) (p118 x4 x5) (p119 x4 x5) (p139 x2 x3 x4 x5 x12 x13 x14 x15) (p140 x2 x3 x4 x5 x12 x13 x14 x15) (p141 x2 x3 x4 x5 x12 x13 x14 x15) (p142 x2 x3 x4 x5 x12 x13 x14 x15) (ix2 p (lane s o)) = g2 x2 x3 x4 x5 x12 x13 x14 x15 p s 2 o := by
  pointwise [k0_pay54]
  simp only [p116_at, p117_at, p118_at, p119_at, p139_at, p140_at, p141_at, p142_at, p143_at]
  rfl

/-- Row 3 after two mixes. -/
theorem g2_3_at : k0_pay55 (p120 x4 x5) (p121 x4 x5) (p122 x4 x5) (p123 x4 x5) (p139 x2 x3 x4 x5 x12 x13 x14 x15) (p140 x2 x3 x4 x5 x12 x13 x14 x15) (p141 x2 x3 x4 x5 x12 x13 x14 x15) (p142 x2 x3 x4 x5 x12 x13 x14 x15) (ix2 p (lane s o)) = g2 x2 x3 x4 x5 x12 x13 x14 x15 p s 3 o := by
  pointwise [k0_pay55]
  simp only [p120_at, p121_at, p122_at, p123_at, p139_at, p140_at, p141_at, p142_at, p143_at]
  rfl

/-- Row 1 after three mixes. -/
theorem p144_at : p144 x2 x3 x4 x5 x12 x13 x14 x15 (ix2 p (lane s o)) = g3 x2 x3 x4 x5 x12 x13 x14 x15 p s 1 o := by
  pointwise [p144, k0_pay56]
  simp only [p112_at, p113_at, p114_at, p115_at, g2_0_at, g2_1_at, g2_2_at, g2_3_at]
  rfl

/-- Row 2 after three mixes. -/
theorem p145_at : p145 x2 x3 x4 x5 x12 x13 x14 x15 (ix2 p (lane s o)) = g3 x2 x3 x4 x5 x12 x13 x14 x15 p s 2 o := by
  pointwise [p145, k0_pay57]
  simp only [p116_at, p117_at, p118_at, p119_at, g2_0_at, g2_1_at, g2_2_at, g2_3_at]
  rfl

/-- Row 3 after three mixes. -/
theorem p146_at : p146 x2 x3 x4 x5 x12 x13 x14 x15 (ix2 p (lane s o)) = g3 x2 x3 x4 x5 x12 x13 x14 x15 p s 3 o := by
  pointwise [p146, k0_pay58]
  simp only [p120_at, p121_at, p122_at, p123_at, g2_0_at, g2_1_at, g2_2_at, g2_3_at]
  rfl

/-- The decoder's bias, the same on both halves. -/
theorem p135_at : p135 x16 (ix2 0 (lane s o)) = b64 x16 o := by
  cases s <;> simp only [lane, b64] <;> pointwise [p135, k0_pay40, r2]

/-- The decoder's slope. -/
theorem p136_at : p136 x17 (ix2 0 0) = one x17 := by
  simp only [one]; pointwise [p136, k0_pay41, r3]

/-- Row 0 after three mixes, with the bias. -/
theorem p147_at : p147 x2 x3 x4 x5 x12 x13 x14 x15 x16 (ix2 p (lane s o)) = g3 x2 x3 x4 x5 x12 x13 x14 x15 p s 0 o + b64 x16 o := by
  pointwise [p147, k0_pay59]
  simp only [p108_at, p109_at, p110_at, p111_at, g2_0_at, g2_1_at, g2_2_at, g2_3_at, p135_at]
  rfl

/-- Hidden row 0. -/
theorem g4_0_at : k0_pay61 (p136 x17) (p147 x2 x3 x4 x5 x12 x13 x14 x15 x16) (p148 x2 x3 x4 x5 x12 x13 x14 x15 x16) (ix2 p (lane s o))
    = g4 x2 x3 x4 x5 x12 x13 x14 x15 x16 x17 p s 0 o := by
  have h : k0_pay61 (p136 x17) (p147 x2 x3 x4 x5 x12 x13 x14 x15 x16) (p148 x2 x3 x4 x5 x12 x13 x14 x15 x16) (ix2 p (lane s o))
      = prelu (p136 x17 (ix2 0 0)) (p147 x2 x3 x4 x5 x12 x13 x14 x15 x16 (ix2 p (lane s o))) := by
    unfold prelu p148 k0_pay60
    pointwise [k0_pay61, p147]
  rw [h, p147_at, p136_at]
  rfl

/-- Hidden row 1. -/
theorem g4_1_at : k0_pay62 (p135 x16) (p136 x17) (p144 x2 x3 x4 x5 x12 x13 x14 x15) (ix2 p (lane s o)) = g4 x2 x3 x4 x5 x12 x13 x14 x15 x16 x17 p s 1 o := by
  pointwise [k0_pay62]
  simp only [p135_at, p136_at, p144_at]
  rfl

/-- Hidden row 2. -/
theorem p149_at : p149 x2 x3 x4 x5 x12 x13 x14 x15 x16 x17 (ix2 p (lane s o)) = g4 x2 x3 x4 x5 x12 x13 x14 x15 x16 x17 p s 2 o := by
  pointwise [p149, k0_pay63]
  simp only [p135_at, p136_at, p145_at]
  rfl

/-- Hidden row 3. -/
theorem p150_at : p150 x2 x3 x4 x5 x12 x13 x14 x15 x16 x17 (ix2 p (lane s o)) = g4 x2 x3 x4 x5 x12 x13 x14 x15 x16 x17 p s 3 o := by
  pointwise [p150, k0_pay64]
  simp only [p135_at, p136_at, p146_at]
  rfl

/-- Mixed hidden row 0. -/
theorem p154_at : p154 x2 x3 x4 x5 x12 x13 x14 x15 x16 x17 (ix2 p (lane s o)) = g5 x2 x3 x4 x5 x12 x13 x14 x15 x16 x17 p s 0 o := by
  pointwise [p154, k0_pay68]
  have h2 := p149_at x2 x3 x4 x5 x12 x13 x14 x15 x16 x17 p s o
  have h3 := p150_at x2 x3 x4 x5 x12 x13 x14 x15 x16 x17 p s o
  unfold p149 at h2; unfold p150 at h3
  simp only [p108_at, p109_at, p110_at, p111_at, g4_0_at, g4_1_at, h2, h3]
  rfl

/-- Mixed hidden row 1. -/
theorem p155_at : p155 x2 x3 x4 x5 x12 x13 x14 x15 x16 x17 (ix2 p (lane s o)) = g5 x2 x3 x4 x5 x12 x13 x14 x15 x16 x17 p s 1 o := by
  pointwise [p155, k0_pay69]
  have h2 := p149_at x2 x3 x4 x5 x12 x13 x14 x15 x16 x17 p s o
  have h3 := p150_at x2 x3 x4 x5 x12 x13 x14 x15 x16 x17 p s o
  unfold p149 at h2; unfold p150 at h3
  simp only [p112_at, p113_at, p114_at, p115_at, g4_0_at, g4_1_at, h2, h3]
  rfl

/-- Mixed hidden row 3. -/
theorem p158_at : p158 x2 x3 x4 x5 x12 x13 x14 x15 x16 x17 (ix2 p (lane s o)) = g5 x2 x3 x4 x5 x12 x13 x14 x15 x16 x17 p s 3 o := by
  pointwise [p158, k0_pay72]
  simp only [p120_at, p121_at, p122_at, p123_at, g4_0_at, g4_1_at, p149_at, p150_at]
  rfl

/-- Mixed hidden row 2, as its two partial sums. -/
theorem g5_2_at : p156 x2 x3 x4 x5 x12 x13 x14 x15 x16 x17 (ix2 p (lane s o)) + p157 x2 x3 x4 x5 x12 x13 x14 x15 x16 x17 (ix2 p (lane s o))
      + p118 x4 x5 (ix2 p (lane s o)) * p149 x2 x3 x4 x5 x12 x13 x14 x15 x16 x17 (ix2 p (lane s o))
      + p119 x4 x5 (ix2 p (lane s o)) * p150 x2 x3 x4 x5 x12 x13 x14 x15 x16 x17 (ix2 p (lane s o)) = g5 x2 x3 x4 x5 x12 x13 x14 x15 x16 x17 p s 2 o := by
  have h0 : p156 x2 x3 x4 x5 x12 x13 x14 x15 x16 x17 (ix2 p (lane s o)) = matA (sel s x4 x5) p 2 0 * g4 x2 x3 x4 x5 x12 x13 x14 x15 x16 x17 p s 0 o := by
    rw [← g4_0_at, ← p116_at x4 x5 p s o]; pointwise [p156, k0_pay70]
  have h1 : p157 x2 x3 x4 x5 x12 x13 x14 x15 x16 x17 (ix2 p (lane s o)) = matA (sel s x4 x5) p 2 1 * g4 x2 x3 x4 x5 x12 x13 x14 x15 x16 x17 p s 1 o := by
    rw [← g4_1_at, ← p117_at x4 x5 p s o]; pointwise [p157, k0_pay71]
  rw [h0, h1, p118_at, p119_at, p149_at, p150_at]
  rfl

/-- Lane `d` of the first or of the second half of 256 lanes. -/
def lane2 (s : Bool) (d : Fin 128) : Fin 256 := match s with
  | false => ⟨d, by omega⟩
  | true => ⟨128 + d, by omega⟩

/-- The decoded rows. -/
def g6 : Fin 4 → Fin 128 → EReal :=
  act (one x11) (b128 x10) (feat (g5 x2 x3 x4 x5 x12 x13 x14 x15 x16 x17 p s) (wd x9))

/-- The output weight on the two halves: each half sees its own lanes only. -/
theorem out_dot (f : FVec Ideal S256x128 .f32) (d : Fin 128) :
    (∑ x, f (ix2 p x) * p151 x9 (ix2 x (lane2 s d))) = ∑ i, f (ix2 p (lane s i)) * wd x9 i d := by
  cases s <;> simp only [lane, lane2, wd] <;> pointwise [p151, k0_pay65, r9]
  all_goals simp only [mul_zero, Finset.sum_const_zero, add_zero, zero_add]

/-- The output bias, the same on both halves. -/
theorem p152_at (d : Fin 128) : p152 x10 (ix2 0 (lane2 s d)) = b128 x10 d := by
  cases s <;> simp only [lane2, b128] <;> pointwise [p152, k0_pay66, r10]

/-- The output slope. -/
theorem p153_at : p153 x11 (ix2 0 0) = one x11 := by
  simp only [one]; pointwise [p153, k0_pay67, r3]

/-- Decoded row 0. -/
theorem g6_0_at (d : Fin 128) : k0_pay73 (p151 x9) (p152 x10) (p153 x11) (p154 x2 x3 x4 x5 x12 x13 x14 x15 x16 x17) (ix2 p (lane2 s d))
    = g6 x2 x3 x4 x5 x9 x10 x11 x12 x13 x14 x15 x16 x17 p s 0 d := by
  pointwise [k0_pay73]
  simp only [out_dot, p152_at, p153_at, p154_at]
  rfl

/-- Decoded row 1. -/
theorem g6_1_at (d : Fin 128) : k0_pay76 (p151 x9) (p152 x10) (p153 x11) (p155 x2 x3 x4 x5 x12 x13 x14 x15 x16 x17) (ix2 p (lane2 s d))
    = g6 x2 x3 x4 x5 x9 x10 x11 x12 x13 x14 x15 x16 x17 p s 1 d := by
  pointwise [k0_pay76]
  simp only [out_dot, p152_at, p153_at, p155_at]
  rfl

/-- Decoded row 3. -/
theorem g6_3_at (d : Fin 128) : k0_pay85 (p151 x9) (p152 x10) (p153 x11) (p158 x2 x3 x4 x5 x12 x13 x14 x15 x16 x17) (ix2 p (lane2 s d))
    = g6 x2 x3 x4 x5 x9 x10 x11 x12 x13 x14 x15 x16 x17 p s 3 d := by
  pointwise [k0_pay85]
  simp only [out_dot, p152_at, p153_at, p158_at]
  rfl

/-- Decoded row 2. -/
theorem g6_2_at (d : Fin 128) : k0_pay82 (p159 x2 x3 x4 x5 x9 x10 x12 x13 x14 x15 x16 x17) (p160 x2 x3 x4 x5 x9 x10 x12 x13 x14 x15 x16 x17) (p161 x11)
      (ix2 p (lane2 s d)) = g6 x2 x3 x4 x5 x9 x10 x11 x12 x13 x14 x15 x16 x17 p s 2 d := by
  have h : p159 x2 x3 x4 x5 x9 x10 x12 x13 x14 x15 x16 x17 (ix2 p (lane2 s d)) = feat (g5 x2 x3 x4 x5 x12 x13 x14 x15 x16 x17 p s) (wd x9) 2 d + b128 x10 d := by
    unfold p159 k0_pay79
    pointwise []
    refine (congrArg₂ (· + ·) (out_dot x9 p s (fun y => p156 x2 x3 x4 x5 x12 x13 x14 x15 x16 x17 y + p157 x2 x3 x4 x5 x12 x13 x14 x15 x16 x17 y
      + p118 x4 x5 y * p149 x2 x3 x4 x5 x12 x13 x14 x15 x16 x17 y + p119 x4 x5 y * p150 x2 x3 x4 x5 x12 x13 x14 x15 x16 x17 y) d)
      (p152_at x10 s d)).trans ?_
    simp only [g5_2_at]
    rfl
  have h2 : k0_pay82 (p159 x2 x3 x4 x5 x9 x10 x12 x13 x14 x15 x16 x17) (p160 x2 x3 x4 x5 x9 x10 x12 x13 x14 x15 x16 x17) (p161 x11)
      (ix2 p (lane2 s d)) = prelu (p153 x11 (ix2 0 0)) (p159 x2 x3 x4 x5 x9 x10 x12 x13 x14 x15 x16 x17 (ix2 p (lane2 s d))) := by
    unfold prelu p160 k0_pay80
    pointwise [k0_pay82, p161, k0_pay81, p159]
  rw [h2, h, p153_at]
  rfl

/-- Vector 1 of a row lies at lanes 128 and above. -/
theorem not_r5 (j : Fin 4) (d : Fin 128) (h : (j : ℕ) < 1) : ix2 p (at512 j d) ∉ (r5).set := by
  intro hm
  have hm1 := (Rect.mem_set_unit.mp hm (1 : Fin 2)).1
  have he' : 128 ≤ 128 * (j : ℕ) + d := hm1
  omega

/-- Vector 2 of a row lies at lanes 256 and above. -/
theorem not_r6 (j : Fin 4) (d : Fin 128) (h : (j : ℕ) < 2) : ix2 p (at512 j d) ∉ (r6).set := by
  intro hm
  have hm1 := (Rect.mem_set_unit.mp hm (1 : Fin 2)).1
  have he' : 256 ≤ 128 * (j : ℕ) + d := hm1
  omega

/-- Vector 3 of a row lies at lanes 384 and above. -/
theorem not_r7 (j : Fin 4) (d : Fin 128) (h : (j : ℕ) < 3) : ix2 p (at512 j d) ∉ (r7).set := by
  intro hm
  have hm1 := (Rect.mem_set_unit.mp hm (1 : Fin 2)).1
  have he' : 384 ≤ 128 * (j : ℕ) + d := hm1
  omega

/-- Four stores side by side: vector 0 holds what its own store wrote. -/
theorem canon4_0 (w3 w2 w1 w0 : FVec Ideal S256x128 .f32) (p : Fin 256) (d : Fin 128) :
    View.canon ([⟨r7, w3⟩, ⟨r6, w2⟩, ⟨r5, w1⟩, ⟨r4, w0⟩] : List (View.Piece (Elt Ideal) S256x512 .f32)) (ix2 p (at512 0 d))
      = w0 (ix2 p d) := by
  refine (View.canon_cons_of_not_mem (⟨r7, w3⟩ : View.Piece (Elt Ideal) S256x512 .f32) _ (not_r7 p 0 d (by decide))).trans ?_
  refine (View.canon_cons_of_not_mem (⟨r6, w2⟩ : View.Piece (Elt Ideal) S256x512 .f32) _ (not_r6 p 0 d (by decide))).trans ?_
  refine (View.canon_cons_of_not_mem (⟨r5, w1⟩ : View.Piece (Elt Ideal) S256x512 .f32) _ (not_r5 p 0 d (by decide))).trans ?_
  have he : (r4).emb (ix2 p d) = ix2 p (at512 0 d) := by
    funext x; apply Fin.ext
    fin_cases x
    · show 0 + 1 * (p : ℕ) = p; omega
    · show 0 + 1 * (d : ℕ) = 128 * 0 + d; omega
  rw [← he]
  exact View.canon_cons_emb (Val := Elt Ideal) (e := .f32) r4 w0 _ (ix2 p d)

/-- Four stores side by side: vector 1 holds what its own store wrote. -/
theorem canon4_1 (w3 w2 w1 w0 : FVec Ideal S256x128 .f32) (p : Fin 256) (d : Fin 128) :
    View.canon ([⟨r7, w3⟩, ⟨r6, w2⟩, ⟨r5, w1⟩, ⟨r4, w0⟩] : List (View.Piece (Elt Ideal) S256x512 .f32)) (ix2 p (at512 1 d))
      = w1 (ix2 p d) := by
  refine (View.canon_cons_of_not_mem (⟨r7, w3⟩ : View.Piece (Elt Ideal) S256x512 .f32) _ (not_r7 p 1 d (by decide))).trans ?_
  refine (View.canon_cons_of_not_mem (⟨r6, w2⟩ : View.Piece (Elt Ideal) S256x512 .f32) _ (not_r6 p 1 d (by decide))).trans ?_
  have he : (r5).emb (ix2 p d) = ix2 p (at512 1 d) := by
    funext x; apply Fin.ext
    fin_cases x
    · show 0 + 1 * (p : ℕ) = p; omega
    · show 128 + 1 * (d : ℕ) = 128 * 1 + d; omega
  rw [← he]
  exact View.canon_cons_emb (Val := Elt Ideal) (e := .f32) r5 w1 _ (ix2 p d)

/-- Four stores side by side: vector 2 holds what its own store wrote. -/
theorem canon4_2 (w3 w2 w1 w0 : FVec Ideal S256x128 .f32) (p : Fin 256) (d : Fin 128) :
    View.canon ([⟨r7, w3⟩, ⟨r6, w2⟩, ⟨r5, w1⟩, ⟨r4, w0⟩] : List (View.Piece (Elt Ideal) S256x512 .f32)) (ix2 p (at512 2 d))
      = w2 (ix2 p d) := by
  refine (View.canon_cons_of_not_mem (⟨r7, w3⟩ : View.Piece (Elt Ideal) S256x512 .f32) _ (not_r7 p 2 d (by decide))).trans ?_
  have he : (r6).emb (ix2 p d) = ix2 p (at512 2 d) := by
    funext x; apply Fin.ext
    fin_cases x
    · show 0 + 1 * (p : ℕ) = p; omega
    · show 256 + 1 * (d : ℕ) = 128 * 2 + d; omega
  rw [← he]
  exact View.canon_cons_emb (Val := Elt Ideal) (e := .f32) r6 w2 _ (ix2 p d)

/-- Four stores side by side: vector 3 holds what its own store wrote. -/
theorem canon4_3 (w3 w2 w1 w0 : FVec Ideal S256x128 .f32) (p : Fin 256) (d : Fin 128) :
    View.canon ([⟨r7, w3⟩, ⟨r6, w2⟩, ⟨r5, w1⟩, ⟨r4, w0⟩] : List (View.Piece (Elt Ideal) S256x512 .f32)) (ix2 p (at512 3 d))
      = w3 (ix2 p d) := by
  have he : (r7).emb (ix2 p d) = ix2 p (at512 3 d) := by
    funext x; apply Fin.ext
    fin_cases x
    · show 0 + 1 * (p : ℕ) = p; omega
    · show 384 + 1 * (d : ℕ) = 128 * 3 + d; omega
  rw [← he]
  exact View.canon_cons_emb (Val := Elt Ideal) (e := .f32) r7 w3 _ (ix2 p d)

/-- Decoded row 3 in its output block. -/
theorem out26_3 (d : Fin 128) : out26 x2 x3 x4 x5 x9 x10 x11 x12 x13 x14 x15 x16 x17 (ix2 p (at512 3 d)) = g6 x2 x3 x4 x5 x9 x10 x11 x12 x13 x14 x15 x16 x17 p false 3 d := by
  rw [← g6_3_at]
  refine (canon4_3 _ _ _ _ p d).trans ?_
  pointwise [lane2, k0_pay86]

/-- Decoded row 2 in its output block. -/
theorem out26_2 (d : Fin 128) : out26 x2 x3 x4 x5 x9 x10 x11 x12 x13 x14 x15 x16 x17 (ix2 p (at512 2 d)) = g6 x2 x3 x4 x5 x9 x10 x11 x12 x13 x14 x15 x16 x17 p false 2 d := by
  rw [← g6_2_at]
  refine (canon4_2 _ _ _ _ p d).trans ?_
  pointwise [lane2, k0_pay83]

/-- Decoded row 1 in its output block. -/
theorem out26_1 (d : Fin 128) : out26 x2 x3 x4 x5 x9 x10 x11 x12 x13 x14 x15 x16 x17 (ix2 p (at512 1 d)) = g6 x2 x3 x4 x5 x9 x10 x11 x12 x13 x14 x15 x16 x17 p false 1 d := by
  rw [← g6_1_at]
  refine (canon4_1 _ _ _ _ p d).trans ?_
  pointwise [lane2, k0_pay77]

/-- Decoded row 0 in its output block. -/
theorem out26_0 (d : Fin 128) : out26 x2 x3 x4 x5 x9 x10 x11 x12 x13 x14 x15 x16 x17 (ix2 p (at512 0 d)) = g6 x2 x3 x4 x5 x9 x10 x11 x12 x13 x14 x15 x16 x17 p false 0 d := by
  rw [← g6_0_at]
  refine (canon4_0 _ _ _ _ p d).trans ?_
  pointwise [lane2, k0_pay74]

/-- Decoded row 3 in its output block. -/
theorem out27_3 (d : Fin 128) : out27 x2 x3 x4 x5 x9 x10 x11 x12 x13 x14 x15 x16 x17 (ix2 p (at512 3 d)) = g6 x2 x3 x4 x5 x9 x10 x11 x12 x13 x14 x15 x16 x17 p true 3 d := by
  rw [← g6_3_at]
  refine (canon4_3 _ _ _ _ p d).trans ?_
  pointwise [lane2, k0_pay87]

/-- Decoded row 2 in its output block. -/
theorem out27_2 (d : Fin 128) : out27 x2 x3 x4 x5 x9 x10 x11 x12 x13 x14 x15 x16 x17 (ix2 p (at512 2 d)) = g6 x2 x3 x4 x5 x9 x10 x11 x12 x13 x14 x15 x16 x17 p true 2 d := by
  rw [← g6_2_at]
  refine (canon4_2 _ _ _ _ p d).trans ?_
  pointwise [lane2, k0_pay84]

/-- Decoded row 1 in its output block. -/
theorem out27_1 (d : Fin 128) : out27 x2 x3 x4 x5 x9 x10 x11 x12 x13 x14 x15 x16 x17 (ix2 p (at512 1 d)) = g6 x2 x3 x4 x5 x9 x10 x11 x12 x13 x14 x15 x16 x17 p true 1 d := by
  rw [← g6_1_at]
  refine (canon4_1 _ _ _ _ p d).trans ?_
  pointwise [lane2, k0_pay78]

/-- Decoded row 0 in its output block. -/
theorem out27_0 (d : Fin 128) : out27 x2 x3 x4 x5 x9 x10 x11 x12 x13 x14 x15 x16 x17 (ix2 p (at512 0 d)) = g6 x2 x3 x4 x5 x9 x10 x11 x12 x13 x14 x15 x16 x17 p true 0 d := by
  rw [← g6_0_at]
  refine (canon4_0 _ _ _ _ p d).trans ?_
  pointwise [lane2, k0_pay75]

end Cert.Block

end
-- ==== Proof.Spec.lean ====
/- The results as functions of the argument arrays, in plain mathematics: what the kernel and the reference are both shown
   to compute. -/
module

public import proofs.«01_k».proof.Proof.Model

@[expose] public section

noncomputable section

namespace Cert.Spec

open Cert.Model
open Idealize.ShloMosaic

/-- A batch of four vectors of 128 numbers. -/
abbrev Seq : Type := (⟨3, ![16384, 4, 128]⟩ : Shape).Idx → EReal

/-- A batch of 4 by 4 matrices. -/
abbrev Adj : Type := (⟨3, ![16384, 4, 4]⟩ : Shape).Idx → EReal

/-- A matrix. -/
abbrev Mat (a b : ℕ) : Type := (⟨2, ![a, b]⟩ : Shape).Idx → EReal

/-- A vector. -/
abbrev Row (a : ℕ) : Type := (⟨1, ![a]⟩ : Shape).Idx → EReal

/-- The weight of a bilinear score. -/
abbrev Bil : Type := (⟨3, ![1, 64, 64]⟩ : Shape).Idx → EReal

/-- The matrix of member `b`. -/
def adj (A : Adj) (b : Fin 16384) (i j : Fin 4) : EReal := A (ix3 b i j)

/-- The four vectors of member `b`. -/
def seq (X : Seq) (b : Fin 16384) (j : Fin 4) (k : Fin 128) : EReal := X (ix3 b j k)

/-- A matrix as a function of two indices. -/
def mat {a b : ℕ} (W : Mat a b) (i : Fin a) (j : Fin b) : EReal := W (ix2 i j)

/-- A vector as a function of its index. -/
def vec {a : ℕ} (v : Row a) (i : Fin a) : EReal := v (ix1 i)

/-- A bilinear weight as a function of two indices. -/
def bil (W : Bil) (i j : Fin 64) : EReal := W (ix3 0 i j)

/-- The encoder's four outputs for member `b`. -/
def hid (X : Seq) (A : Adj) (W : Mat 128 64) (v : Row 64) (a : Row 1) (b : Fin 16384) : Fin 4 → Fin 64 → EReal :=
  enc (adj A b) (seq X b) (mat W) (vec v) (vec a 0)

/-- The kernel's decoder for member `b`. -/
def outK (X : Seq) (A : Adj) (Wd : Mat 64 128) (bd : Row 128) (ad : Row 1) (W1 : Mat 128 64) (W2 W3 Wl : Mat 64 64)
    (bl : Row 64) (al : Row 1) (b : Fin 16384) : Fin 4 → Fin 128 → EReal :=
  decK (adj A b) (seq X b) (mat W1) (mat W2) (mat W3) (mat Wl) (vec bl) (vec al 0) (mat Wd) (vec bd) (vec ad 0)

/-- The reference's decoder for member `b`. -/
def outR (X : Seq) (A : Adj) (Wd : Mat 64 128) (bd : Row 128) (ad : Row 1) (W1 : Mat 128 64) (W2 W3 Wl : Mat 64 64)
    (bl : Row 64) (al : Row 1) (b : Fin 16384) : Fin 4 → Fin 128 → EReal :=
  decR (adj A b) (seq X b) (mat W1) (mat W2) (mat W3) (mat Wl) (vec bl) (vec al 0) (mat Wd) (vec bd) (vec ad 0)

/-- The member before `b`; before the first one comes `z`. -/
def before (z b : Fin 16384) : Fin 16384 := if b = 0 then z else ⟨b - 1, by omega⟩

/-- The score of member `b`'s vector `U b` against the vector `C b`. -/
def pair (W : Bil) (v : Row 1) (U C : Fin 16384 → Fin 64 → EReal) (b : Fin 16384) : EReal :=
  score (bil W) (vec v 0) (U b) (C b)

/-- A column of scores: each member against its own vector, then each against the vector of the member before. -/
def scores (z : Fin 16384) (W : Bil) (v : Row 1) (U C : Fin 16384 → Fin 64 → EReal) :
    (⟨2, ![32768, 1]⟩ : Shape).Idx → EReal := fun i =>
  if h : (i 0 : ℕ) < 16384 then pair W v U C ⟨i 0, h⟩
  else pair W v U (fun b => C (before z b)) ⟨(i 0 : ℕ) - 16384, by have := (i 0).isLt; simp at this; omega⟩

/-- A batch of decoded vectors as an array. -/
def batch (f : Fin 16384 → Fin 4 → Fin 128 → EReal) : Seq := fun i => f (i 0) (i 1) (i 2)

end Cert.Spec

end
-- ==== Proof.Arrays.lean ====
/- The arrays that the kernel's grid leaves, element by element: what each block of an input holds of the arguments, and
   the member of the batch that each row of each output belongs to. -/
module

public import proofs.«01_k».proof.Proof.KernelIdealRun
public import proofs.«01_k».proof.Proof.Scores
public import proofs.«01_k».proof.Proof.Decoder
public import proofs.«01_k».proof.Proof.Spec

@[expose] public section

set_option maxRecDepth 16384

noncomputable section

namespace Cert.Block

open Cert.KernelIdeal Cert.KernelIdeal.Gen Cert.KernelIdeal.Body Cert.Model
open Idealize.ShloMosaic Idealize.ShloMosaic.TcCoe
open Idealize.ShloMosaic.Pipeline (Dat Cfg Window)

variable (m : (ℓ : Loc nD τ sig) → Buf (Elt Ideal) ℓ) (c : Dev nD)

/-- Row `p` of block `t` is this member of the batch. -/
def row (t : Fin 64) (p : Fin 256) : Fin 16384 := ⟨256 * t + p, by omega⟩

/-! ## The casts before the grid -/

/-- Four vectors side by side in one row. -/
theorem cast_seq (x : FVec Ideal S16384x4x128 .f32) (h : S16384x4x128.ShapeCasts S16384x512) (b : Fin 16384) (j : Fin 4) (k : Fin 128) :
    shapeCast S16384x512 x h (ix2 b (at512 j k)) = x (ix3 b j k) :=
  shapeCast_apply x h _ _ (by
    rw [Shape.rowMajor_val_three, Shape.rowMajor_val_two]
    show ((b : ℕ) * 4 + j) * 128 + k = (b : ℕ) * 512 + (128 * j + k)
    omega)

/-- A 4 by 4 matrix in one row. -/
theorem cast_adj (x : FVec Ideal S16384x4x4 .f32) (h : S16384x4x4.ShapeCasts S16384x16) (b : Fin 16384) (i j : Fin 4) :
    shapeCast S16384x16 x h (ix2 b (at4 i j)) = x (ix3 b i j) :=
  shapeCast_apply x h _ _ (by
    rw [Shape.rowMajor_val_three, Shape.rowMajor_val_two]
    show ((b : ℕ) * 4 + i) * 4 + j = (b : ℕ) * 16 + (4 * i + j)
    omega)

/-- A bilinear weight as a matrix. -/
theorem cast_bil (x : FVec Ideal S1x64x64 .f32) (h : S1x64x64.ShapeCasts S64x64) (i j : Fin 64) :
    shapeCast S64x64 x h (ix2 i j) = x (ix3 0 i j) :=
  shapeCast_apply x h _ _ (by
    rw [Shape.rowMajor_val_three, Shape.rowMajor_val_two]
    show (0 * 64 + (i : ℕ)) * 64 + j = (i : ℕ) * 64 + j
    omega)

/-- A vector of 64 as a row. -/
theorem cast_vec64 (x : FVec Ideal S64 .f32) (h : S64.ShapeCasts S1x64) (o : Fin 64) :
    shapeCast S1x64 x h (ix2 0 o) = x (ix1 o) :=
  shapeCast_apply x h _ _ (by
    rw [Shape.rowMajor_val_one, Shape.rowMajor_val_two]
    show (o : ℕ) = 0 * 64 + (o : ℕ)
    omega)

/-- A vector of 128 as a row. -/
theorem cast_vec128 (x : FVec Ideal S128 .f32) (h : S128.ShapeCasts S1x128) (o : Fin 128) :
    shapeCast S1x128 x h (ix2 0 o) = x (ix1 o) :=
  shapeCast_apply x h _ _ (by
    rw [Shape.rowMajor_val_one, Shape.rowMajor_val_two]
    show (o : ℕ) = 0 * 128 + (o : ℕ)
    omega)

/-- A vector of 1 as a row. -/
theorem cast_vec1 (x : FVec Ideal S1 .f32) (h : S1.ShapeCasts S1x1) (o : Fin 1) :
    shapeCast S1x1 x h (ix2 0 o) = x (ix1 o) :=
  shapeCast_apply x h _ _ (by
    rw [Shape.rowMajor_val_one, Shape.rowMajor_val_two]
    show (o : ℕ) = 0 * 1 + (o : ℕ)
    omega)

/-- Array `main_v0` at the grid's start: argument 0, cast. -/
theorem V_v0 (h : S16384x4x128.ShapeCasts S16384x512) : V m c main_v0 = shapeCast S16384x512 (m ((c : Thread nD τ).loc main_arg0)) h := by
  show StableHlo.after hostOps0 _ (Proc.devRef .tc main_v0) = _
  after_results
  rfl

/-- Array `main_v1` at the grid's start: argument 1, cast. -/
theorem V_v1 (h : S16384x4x128.ShapeCasts S16384x512) : V m c main_v1 = shapeCast S16384x512 (m ((c : Thread nD τ).loc main_arg1)) h := by
  show StableHlo.after hostOps0 _ (Proc.devRef .tc main_v1) = _
  after_results
  rfl

/-- Array `main_v2` at the grid's start: argument 2, cast. -/
theorem V_v2 (h : S16384x4x128.ShapeCasts S16384x512) : V m c main_v2 = shapeCast S16384x512 (m ((c : Thread nD τ).loc main_arg2)) h := by
  show StableHlo.after hostOps0 _ (Proc.devRef .tc main_v2) = _
  after_results
  rfl

/-- Array `main_v3` at the grid's start: argument 3, cast. -/
theorem V_v3 (h : S16384x4x128.ShapeCasts S16384x512) : V m c main_v3 = shapeCast S16384x512 (m ((c : Thread nD τ).loc main_arg3)) h := by
  show StableHlo.after hostOps0 _ (Proc.devRef .tc main_v3) = _
  after_results
  rfl

/-- Array `main_v4` at the grid's start: argument 4, cast. -/
theorem V_v4 (h : S16384x4x4.ShapeCasts S16384x16) : V m c main_v4 = shapeCast S16384x16 (m ((c : Thread nD τ).loc main_arg4)) h := by
  show StableHlo.after hostOps0 _ (Proc.devRef .tc main_v4) = _
  after_results
  rfl

/-- Array `main_v5` at the grid's start: argument 5, cast. -/
theorem V_v5 (h : S16384x4x4.ShapeCasts S16384x16) : V m c main_v5 = shapeCast S16384x16 (m ((c : Thread nD τ).loc main_arg5)) h := by
  show StableHlo.after hostOps0 _ (Proc.devRef .tc main_v5) = _
  after_results
  rfl

/-- Array `main_v6` at the grid's start: argument 7, cast. -/
theorem V_v6 (h : S64.ShapeCasts S1x64) : V m c main_v6 = shapeCast S1x64 (m ((c : Thread nD τ).loc main_arg7)) h := by
  show StableHlo.after hostOps0 _ (Proc.devRef .tc main_v6) = _
  after_results
  rfl

/-- Array `main_v7` at the grid's start: argument 8, cast. -/
theorem V_v7 (h : S1.ShapeCasts S1x1) : V m c main_v7 = shapeCast S1x1 (m ((c : Thread nD τ).loc main_arg8)) h := by
  show StableHlo.after hostOps0 _ (Proc.devRef .tc main_v7) = _
  after_results
  rfl

/-- Array `main_v8` at the grid's start: argument 10, cast. -/
theorem V_v8 (h : S128.ShapeCasts S1x128) : V m c main_v8 = shapeCast S1x128 (m ((c : Thread nD τ).loc main_arg10)) h := by
  show StableHlo.after hostOps0 _ (Proc.devRef .tc main_v8) = _
  after_results
  rfl

/-- Array `main_v9` at the grid's start: argument 11, cast. -/
theorem V_v9 (h : S1.ShapeCasts S1x1) : V m c main_v9 = shapeCast S1x1 (m ((c : Thread nD τ).loc main_arg11)) h := by
  show StableHlo.after hostOps0 _ (Proc.devRef .tc main_v9) = _
  after_results
  rfl

/-- Array `main_v10` at the grid's start: argument 16, cast. -/
theorem V_v10 (h : S64.ShapeCasts S1x64) : V m c main_v10 = shapeCast S1x64 (m ((c : Thread nD τ).loc main_arg16)) h := by
  show StableHlo.after hostOps0 _ (Proc.devRef .tc main_v10) = _
  after_results
  rfl

/-- Array `main_v11` at the grid's start: argument 17, cast. -/
theorem V_v11 (h : S1.ShapeCasts S1x1) : V m c main_v11 = shapeCast S1x1 (m ((c : Thread nD τ).loc main_arg17)) h := by
  show StableHlo.after hostOps0 _ (Proc.devRef .tc main_v11) = _
  after_results
  rfl

/-- Array `main_v12` at the grid's start: argument 18, cast. -/
theorem V_v12 (h : S1x64x64.ShapeCasts S64x64) : V m c main_v12 = shapeCast S64x64 (m ((c : Thread nD τ).loc main_arg18)) h := by
  show StableHlo.after hostOps0 _ (Proc.devRef .tc main_v12) = _
  after_results
  rfl

/-- Array `main_v13` at the grid's start: argument 19, cast. -/
theorem V_v13 (h : S1.ShapeCasts S1x1) : V m c main_v13 = shapeCast S1x1 (m ((c : Thread nD τ).loc main_arg19)) h := by
  show StableHlo.after hostOps0 _ (Proc.devRef .tc main_v13) = _
  after_results
  rfl

/-- Array `main_v14` at the grid's start: argument 20, cast. -/
theorem V_v14 (h : S1x64x64.ShapeCasts S64x64) : V m c main_v14 = shapeCast S64x64 (m ((c : Thread nD τ).loc main_arg20)) h := by
  show StableHlo.after hostOps0 _ (Proc.devRef .tc main_v14) = _
  after_results
  rfl

/-- Array `main_v15` at the grid's start: argument 21, cast. -/
theorem V_v15 (h : S1.ShapeCasts S1x1) : V m c main_v15 = shapeCast S1x1 (m ((c : Thread nD τ).loc main_arg21)) h := by
  show StableHlo.after hostOps0 _ (Proc.devRef .tc main_v15) = _
  after_results
  rfl

/-- Array `main_v16` at the grid's start: argument 22, cast. -/
theorem V_v16 (h : S1x64x64.ShapeCasts S64x64) : V m c main_v16 = shapeCast S64x64 (m ((c : Thread nD τ).loc main_arg22)) h := by
  show StableHlo.after hostOps0 _ (Proc.devRef .tc main_v16) = _
  after_results
  rfl

/-- Array `main_v17` at the grid's start: argument 23, cast. -/
theorem V_v17 (h : S1.ShapeCasts S1x1) : V m c main_v17 = shapeCast S1x1 (m ((c : Thread nD τ).loc main_arg23)) h := by
  show StableHlo.after hostOps0 _ (Proc.devRef .tc main_v17) = _
  after_results
  rfl

/-- Array `main_v18` at the grid's start: argument 24, cast. -/
theorem V_v18 (h : S1x64x64.ShapeCasts S64x64) : V m c main_v18 = shapeCast S64x64 (m ((c : Thread nD τ).loc main_arg24)) h := by
  show StableHlo.after hostOps0 _ (Proc.devRef .tc main_v18) = _
  after_results
  rfl

/-- Array `main_v19` at the grid's start: argument 25, cast. -/
theorem V_v19 (h : S1.ShapeCasts S1x1) : V m c main_v19 = shapeCast S1x1 (m ((c : Thread nD τ).loc main_arg25)) h := by
  show StableHlo.after hostOps0 _ (Proc.devRef .tc main_v19) = _
  after_results
  rfl

/-! ## What the blocks hold -/

/-- Block `t` of array 0 starts at row `256 t`. -/
theorem index0 : ∀ t : Fin cfg0.N, win0_0.index t 0 = t ∧ win0_0.index t 1 = 0 := by decide +kernel

/-- Row `p` of block `t` of array 0. -/
theorem emb0 (t : Fin cfg0.N) (p : Fin 256) (e : Fin 512) :
    ((cfg0.win 0).blk t).view.emb (ix2 p e) = ix2 (row t p) e := by
  funext a; apply Fin.ext
  refine (win0_0.rect_emb_val t (ix2 p e) a).trans ?_
  fin_cases a
  · show win0_0.index t 0 * 256 + (p : ℕ) = 256 * t + p
    rw [(index0 t).1]; omega
  · show win0_0.index t 1 * 512 + (e : ℕ) = e
    rw [(index0 t).2]; omega

/-- The vectors in row `p` of block `t`. -/
theorem rows_0 (t : Fin cfg0.N) (p : Fin 256) :
    rows (iblk m c 0 t) p = Spec.seq (m ((c : Thread nD τ).loc main_arg0)) (row t p) := by
  funext j k
  show V m c main_v0 (((cfg0.win 0).blk t).view.emb (ix2 p (at512 j k))) = _
  rw [emb0, V_v0 m c (by decide)]
  exact cast_seq _ _ _ _ _

/-- Block `t` of array 1 starts at row `256 t`. -/
theorem index1 : ∀ t : Fin cfg0.N, win0_1.index t 0 = t ∧ win0_1.index t 1 = 0 := by decide +kernel

/-- Row `p` of block `t` of array 1. -/
theorem emb1 (t : Fin cfg0.N) (p : Fin 256) (e : Fin 512) :
    ((cfg0.win 1).blk t).view.emb (ix2 p e) = ix2 (row t p) e := by
  funext a; apply Fin.ext
  refine (win0_1.rect_emb_val t (ix2 p e) a).trans ?_
  fin_cases a
  · show win0_1.index t 0 * 256 + (p : ℕ) = 256 * t + p
    rw [(index1 t).1]; omega
  · show win0_1.index t 1 * 512 + (e : ℕ) = e
    rw [(index1 t).2]; omega

/-- The vectors in row `p` of block `t`. -/
theorem rows_1 (t : Fin cfg0.N) (p : Fin 256) :
    rows (iblk m c 1 t) p = Spec.seq (m ((c : Thread nD τ).loc main_arg1)) (row t p) := by
  funext j k
  show V m c main_v1 (((cfg0.win 1).blk t).view.emb (ix2 p (at512 j k))) = _
  rw [emb1, V_v1 m c (by decide)]
  exact cast_seq _ _ _ _ _

/-- Block `t` of array 2 starts at row `256 t`. -/
theorem index2 : ∀ t : Fin cfg0.N, win0_2.index t 0 = t ∧ win0_2.index t 1 = 0 := by decide +kernel

/-- Row `p` of block `t` of array 2. -/
theorem emb2 (t : Fin cfg0.N) (p : Fin 256) (e : Fin 512) :
    ((cfg0.win 2).blk t).view.emb (ix2 p e) = ix2 (row t p) e := by
  funext a; apply Fin.ext
  refine (win0_2.rect_emb_val t (ix2 p e) a).trans ?_
  fin_cases a
  · show win0_2.index t 0 * 256 + (p : ℕ) = 256 * t + p
    rw [(index2 t).1]; omega
  · show win0_2.index t 1 * 512 + (e : ℕ) = e
    rw [(index2 t).2]; omega

/-- The vectors in row `p` of block `t`. -/
theorem rows_2 (t : Fin cfg0.N) (p : Fin 256) :
    rows (iblk m c 2 t) p = Spec.seq (m ((c : Thread nD τ).loc main_arg2)) (row t p) := by
  funext j k
  show V m c main_v2 (((cfg0.win 2).blk t).view.emb (ix2 p (at512 j k))) = _
  rw [emb2, V_v2 m c (by decide)]
  exact cast_seq _ _ _ _ _

/-- Block `t` of array 3 starts at row `256 t`. -/
theorem index3 : ∀ t : Fin cfg0.N, win0_3.index t 0 = t ∧ win0_3.index t 1 = 0 := by decide +kernel

/-- Row `p` of block `t` of array 3. -/
theorem emb3 (t : Fin cfg0.N) (p : Fin 256) (e : Fin 512) :
    ((cfg0.win 3).blk t).view.emb (ix2 p e) = ix2 (row t p) e := by
  funext a; apply Fin.ext
  refine (win0_3.rect_emb_val t (ix2 p e) a).trans ?_
  fin_cases a
  · show win0_3.index t 0 * 256 + (p : ℕ) = 256 * t + p
    rw [(index3 t).1]; omega
  · show win0_3.index t 1 * 512 + (e : ℕ) = e
    rw [(index3 t).2]; omega

/-- The vectors in row `p` of block `t`. -/
theorem rows_3 (t : Fin cfg0.N) (p : Fin 256) :
    rows (iblk m c 3 t) p = Spec.seq (m ((c : Thread nD τ).loc main_arg3)) (row t p) := by
  funext j k
  show V m c main_v3 (((cfg0.win 3).blk t).view.emb (ix2 p (at512 j k))) = _
  rw [emb3, V_v3 m c (by decide)]
  exact cast_seq _ _ _ _ _

/-- Block `t` of array 4 starts at row `256 t`. -/
theorem index4 : ∀ t : Fin cfg0.N, win0_4.index t 0 = t ∧ win0_4.index t 1 = 0 := by decide +kernel

/-- Row `p` of block `t` of array 4. -/
theorem emb4 (t : Fin cfg0.N) (p : Fin 256) (e : Fin 16) :
    ((cfg0.win 4).blk t).view.emb (ix2 p e) = ix2 (row t p) e := by
  funext a; apply Fin.ext
  refine (win0_4.rect_emb_val t (ix2 p e) a).trans ?_
  fin_cases a
  · show win0_4.index t 0 * 256 + (p : ℕ) = 256 * t + p
    rw [(index4 t).1]; omega
  · show win0_4.index t 1 * 16 + (e : ℕ) = e
    rw [(index4 t).2]; omega

/-- The matrix in row `p` of block `t`. -/
theorem matA_4 (t : Fin cfg0.N) (p : Fin 256) :
    matA (iblk m c 4 t) p = Spec.adj (m ((c : Thread nD τ).loc main_arg4)) (row t p) := by
  funext i j
  show V m c main_v4 (((cfg0.win 4).blk t).view.emb (ix2 p (at4 i j))) = _
  rw [emb4, V_v4 m c (by decide)]
  exact cast_adj _ _ _ _ _

/-- Block `t` of array 5 starts at row `256 t`. -/
theorem index5 : ∀ t : Fin cfg0.N, win0_5.index t 0 = t ∧ win0_5.index t 1 = 0 := by decide +kernel

/-- Row `p` of block `t` of array 5. -/
theorem emb5 (t : Fin cfg0.N) (p : Fin 256) (e : Fin 16) :
    ((cfg0.win 5).blk t).view.emb (ix2 p e) = ix2 (row t p) e := by
  funext a; apply Fin.ext
  refine (win0_5.rect_emb_val t (ix2 p e) a).trans ?_
  fin_cases a
  · show win0_5.index t 0 * 256 + (p : ℕ) = 256 * t + p
    rw [(index5 t).1]; omega
  · show win0_5.index t 1 * 16 + (e : ℕ) = e
    rw [(index5 t).2]; omega

/-- The matrix in row `p` of block `t`. -/
theorem matA_5 (t : Fin cfg0.N) (p : Fin 256) :
    matA (iblk m c 5 t) p = Spec.adj (m ((c : Thread nD τ).loc main_arg5)) (row t p) := by
  funext i j
  show V m c main_v5 (((cfg0.win 5).blk t).view.emb (ix2 p (at4 i j))) = _
  rw [emb5, V_v5 m c (by decide)]
  exact cast_adj _ _ _ _ _

/-- Block `t` of operand 6 is the whole array. -/
theorem whole6 (t : Fin cfg0.N) : iblk m c 6 t = V m c main_arg6 := by
  funext y
  show V m c main_arg6 (((cfg0.win 6).blk t).view.emb y) = _
  congr 1
  funext a; apply Fin.ext
  exact win0_6.rect_emb_val_of_index_zero t a
    ((by decide +kernel : ∀ (t : Fin cfg0.N) a, win0_6.index t a = 0) t a) y

/-- Operand 6 is argument 6. -/
theorem w128_6 (t : Fin cfg0.N) : w128 (iblk m c 6 t) = Spec.mat (m ((c : Thread nD τ).loc main_arg6)) := by
  rw [whole6]
  funext i j
  exact congrFun (V_main_arg6 m c) _

/-- Block `t` of operand 7 is the whole array. -/
theorem whole7 (t : Fin cfg0.N) : iblk m c 7 t = V m c main_v6 := by
  funext y
  show V m c main_v6 (((cfg0.win 7).blk t).view.emb y) = _
  congr 1
  funext a; apply Fin.ext
  exact win0_7.rect_emb_val_of_index_zero t a
    ((by decide +kernel : ∀ (t : Fin cfg0.N) a, win0_7.index t a = 0) t a) y

/-- Operand 7 is argument 7. -/
theorem b64_7 (t : Fin cfg0.N) : b64 (iblk m c 7 t) = Spec.vec (m ((c : Thread nD τ).loc main_arg7)) := by
  rw [whole7]
  rw [V_v6 m c (by decide)]
  funext o
  exact cast_vec64 _ _ _

/-- Block `t` of operand 8 is the whole array. -/
theorem whole8 (t : Fin cfg0.N) : iblk m c 8 t = V m c main_v7 := by
  funext y
  show V m c main_v7 (((cfg0.win 8).blk t).view.emb y) = _
  congr 1
  funext a; apply Fin.ext
  exact win0_8.rect_emb_val_of_index_zero t a
    ((by decide +kernel : ∀ (t : Fin cfg0.N) a, win0_8.index t a = 0) t a) y

/-- Operand 8 is argument 8. -/
theorem one_8 (t : Fin cfg0.N) : one (iblk m c 8 t) = Spec.vec (m ((c : Thread nD τ).loc main_arg8)) 0 := by
  rw [whole8]
  rw [V_v7 m c (by decide)]
  exact cast_vec1 _ _ 0

/-- Block `t` of operand 9 is the whole array. -/
theorem whole9 (t : Fin cfg0.N) : iblk m c 9 t = V m c main_arg9 := by
  funext y
  show V m c main_arg9 (((cfg0.win 9).blk t).view.emb y) = _
  congr 1
  funext a; apply Fin.ext
  exact win0_9.rect_emb_val_of_index_zero t a
    ((by decide +kernel : ∀ (t : Fin cfg0.N) a, win0_9.index t a = 0) t a) y

/-- Operand 9 is argument 9. -/
theorem wd_9 (t : Fin cfg0.N) : wd (iblk m c 9 t) = Spec.mat (m ((c : Thread nD τ).loc main_arg9)) := by
  rw [whole9]
  funext i j
  exact congrFun (V_main_arg9 m c) _

/-- Block `t` of operand 10 is the whole array. -/
theorem whole10 (t : Fin cfg0.N) : iblk m c 10 t = V m c main_v8 := by
  funext y
  show V m c main_v8 (((cfg0.win 10).blk t).view.emb y) = _
  congr 1
  funext a; apply Fin.ext
  exact win0_10.rect_emb_val_of_index_zero t a
    ((by decide +kernel : ∀ (t : Fin cfg0.N) a, win0_10.index t a = 0) t a) y

/-- Operand 10 is argument 10. -/
theorem b128_10 (t : Fin cfg0.N) : b128 (iblk m c 10 t) = Spec.vec (m ((c : Thread nD τ).loc main_arg10)) := by
  rw [whole10]
  rw [V_v8 m c (by decide)]
  funext o
  exact cast_vec128 _ _ _

/-- Block `t` of operand 11 is the whole array. -/
theorem whole11 (t : Fin cfg0.N) : iblk m c 11 t = V m c main_v9 := by
  funext y
  show V m c main_v9 (((cfg0.win 11).blk t).view.emb y) = _
  congr 1
  funext a; apply Fin.ext
  exact win0_11.rect_emb_val_of_index_zero t a
    ((by decide +kernel : ∀ (t : Fin cfg0.N) a, win0_11.index t a = 0) t a) y

/-- Operand 11 is argument 11. -/
theorem one_11 (t : Fin cfg0.N) : one (iblk m c 11 t) = Spec.vec (m ((c : Thread nD τ).loc main_arg11)) 0 := by
  rw [whole11]
  rw [V_v9 m c (by decide)]
  exact cast_vec1 _ _ 0

/-- Block `t` of operand 12 is the whole array. -/
theorem whole12 (t : Fin cfg0.N) : iblk m c 12 t = V m c main_arg12 := by
  funext y
  show V m c main_arg12 (((cfg0.win 12).blk t).view.emb y) = _
  congr 1
  funext a; apply Fin.ext
  exact win0_12.rect_emb_val_of_index_zero t a
    ((by decide +kernel : ∀ (t : Fin cfg0.N) a, win0_12.index t a = 0) t a) y

/-- Operand 12 is argument 12. -/
theorem w128_12 (t : Fin cfg0.N) : w128 (iblk m c 12 t) = Spec.mat (m ((c : Thread nD τ).loc main_arg12)) := by
  rw [whole12]
  funext i j
  exact congrFun (V_main_arg12 m c) _

/-- Block `t` of operand 13 is the whole array. -/
theorem whole13 (t : Fin cfg0.N) : iblk m c 13 t = V m c main_arg13 := by
  funext y
  show V m c main_arg13 (((cfg0.win 13).blk t).view.emb y) = _
  congr 1
  funext a; apply Fin.ext
  exact win0_13.rect_emb_val_of_index_zero t a
    ((by decide +kernel : ∀ (t : Fin cfg0.N) a, win0_13.index t a = 0) t a) y

/-- Operand 13 is argument 13. -/
theorem w64_13 (t : Fin cfg0.N) : w64 (iblk m c 13 t) = Spec.mat (m ((c : Thread nD τ).loc main_arg13)) := by
  rw [whole13]
  funext i j
  exact congrFun (V_main_arg13 m c) _

/-- Block `t` of operand 14 is the whole array. -/
theorem whole14 (t : Fin cfg0.N) : iblk m c 14 t = V m c main_arg14 := by
  funext y
  show V m c main_arg14 (((cfg0.win 14).blk t).view.emb y) = _
  congr 1
  funext a; apply Fin.ext
  exact win0_14.rect_emb_val_of_index_zero t a
    ((by decide +kernel : ∀ (t : Fin cfg0.N) a, win0_14.index t a = 0) t a) y

/-- Operand 14 is argument 14. -/
theorem w64_14 (t : Fin cfg0.N) : w64 (iblk m c 14 t) = Spec.mat (m ((c : Thread nD τ).loc main_arg14)) := by
  rw [whole14]
  funext i j
  exact congrFun (V_main_arg14 m c) _

/-- Block `t` of operand 15 is the whole array. -/
theorem whole15 (t : Fin cfg0.N) : iblk m c 15 t = V m c main_arg15 := by
  funext y
  show V m c main_arg15 (((cfg0.win 15).blk t).view.emb y) = _
  congr 1
  funext a; apply Fin.ext
  exact win0_15.rect_emb_val_of_index_zero t a
    ((by decide +kernel : ∀ (t : Fin cfg0.N) a, win0_15.index t a = 0) t a) y

/-- Operand 15 is argument 15. -/
theorem w64_15 (t : Fin cfg0.N) : w64 (iblk m c 15 t) = Spec.mat (m ((c : Thread nD τ).loc main_arg15)) := by
  rw [whole15]
  funext i j
  exact congrFun (V_main_arg15 m c) _

/-- Block `t` of operand 16 is the whole array. -/
theorem whole16 (t : Fin cfg0.N) : iblk m c 16 t = V m c main_v10 := by
  funext y
  show V m c main_v10 (((cfg0.win 16).blk t).view.emb y) = _
  congr 1
  funext a; apply Fin.ext
  exact win0_16.rect_emb_val_of_index_zero t a
    ((by decide +kernel : ∀ (t : Fin cfg0.N) a, win0_16.index t a = 0) t a) y

/-- Operand 16 is argument 16. -/
theorem b64_16 (t : Fin cfg0.N) : b64 (iblk m c 16 t) = Spec.vec (m ((c : Thread nD τ).loc main_arg16)) := by
  rw [whole16]
  rw [V_v10 m c (by decide)]
  funext o
  exact cast_vec64 _ _ _

/-- Block `t` of operand 17 is the whole array. -/
theorem whole17 (t : Fin cfg0.N) : iblk m c 17 t = V m c main_v11 := by
  funext y
  show V m c main_v11 (((cfg0.win 17).blk t).view.emb y) = _
  congr 1
  funext a; apply Fin.ext
  exact win0_17.rect_emb_val_of_index_zero t a
    ((by decide +kernel : ∀ (t : Fin cfg0.N) a, win0_17.index t a = 0) t a) y

/-- Operand 17 is argument 17. -/
theorem one_17 (t : Fin cfg0.N) : one (iblk m c 17 t) = Spec.vec (m ((c : Thread nD τ).loc main_arg17)) 0 := by
  rw [whole17]
  rw [V_v11 m c (by decide)]
  exact cast_vec1 _ _ 0

/-- Block `t` of operand 18 is the whole array. -/
theorem whole18 (t : Fin cfg0.N) : iblk m c 18 t = V m c main_v12 := by
  funext y
  show V m c main_v12 (((cfg0.win 18).blk t).view.emb y) = _
  congr 1
  funext a; apply Fin.ext
  exact win0_18.rect_emb_val_of_index_zero t a
    ((by decide +kernel : ∀ (t : Fin cfg0.N) a, win0_18.index t a = 0) t a) y

/-- Operand 18 is argument 18. -/
theorem w64_18 (t : Fin cfg0.N) : w64 (iblk m c 18 t) = Spec.bil (m ((c : Thread nD τ).loc main_arg18)) := by
  rw [whole18]
  rw [V_v12 m c (by decide)]
  funext i j
  exact cast_bil _ _ _ _

/-- Block `t` of operand 19 is the whole array. -/
theorem whole19 (t : Fin cfg0.N) : iblk m c 19 t = V m c main_v13 := by
  funext y
  show V m c main_v13 (((cfg0.win 19).blk t).view.emb y) = _
  congr 1
  funext a; apply Fin.ext
  exact win0_19.rect_emb_val_of_index_zero t a
    ((by decide +kernel : ∀ (t : Fin cfg0.N) a, win0_19.index t a = 0) t a) y

/-- Operand 19 is argument 19. -/
theorem one_19 (t : Fin cfg0.N) : one (iblk m c 19 t) = Spec.vec (m ((c : Thread nD τ).loc main_arg19)) 0 := by
  rw [whole19]
  rw [V_v13 m c (by decide)]
  exact cast_vec1 _ _ 0

/-- Block `t` of operand 20 is the whole array. -/
theorem whole20 (t : Fin cfg0.N) : iblk m c 20 t = V m c main_v14 := by
  funext y
  show V m c main_v14 (((cfg0.win 20).blk t).view.emb y) = _
  congr 1
  funext a; apply Fin.ext
  exact win0_20.rect_emb_val_of_index_zero t a
    ((by decide +kernel : ∀ (t : Fin cfg0.N) a, win0_20.index t a = 0) t a) y

/-- Operand 20 is argument 20. -/
theorem w64_20 (t : Fin cfg0.N) : w64 (iblk m c 20 t) = Spec.bil (m ((c : Thread nD τ).loc main_arg20)) := by
  rw [whole20]
  rw [V_v14 m c (by decide)]
  funext i j
  exact cast_bil _ _ _ _

/-- Block `t` of operand 21 is the whole array. -/
theorem whole21 (t : Fin cfg0.N) : iblk m c 21 t = V m c main_v15 := by
  funext y
  show V m c main_v15 (((cfg0.win 21).blk t).view.emb y) = _
  congr 1
  funext a; apply Fin.ext
  exact win0_21.rect_emb_val_of_index_zero t a
    ((by decide +kernel : ∀ (t : Fin cfg0.N) a, win0_21.index t a = 0) t a) y

/-- Operand 21 is argument 21. -/
theorem one_21 (t : Fin cfg0.N) : one (iblk m c 21 t) = Spec.vec (m ((c : Thread nD τ).loc main_arg21)) 0 := by
  rw [whole21]
  rw [V_v15 m c (by decide)]
  exact cast_vec1 _ _ 0

/-- Block `t` of operand 22 is the whole array. -/
theorem whole22 (t : Fin cfg0.N) : iblk m c 22 t = V m c main_v16 := by
  funext y
  show V m c main_v16 (((cfg0.win 22).blk t).view.emb y) = _
  congr 1
  funext a; apply Fin.ext
  exact win0_22.rect_emb_val_of_index_zero t a
    ((by decide +kernel : ∀ (t : Fin cfg0.N) a, win0_22.index t a = 0) t a) y

/-- Operand 22 is argument 22. -/
theorem w64_22 (t : Fin cfg0.N) : w64 (iblk m c 22 t) = Spec.bil (m ((c : Thread nD τ).loc main_arg22)) := by
  rw [whole22]
  rw [V_v16 m c (by decide)]
  funext i j
  exact cast_bil _ _ _ _

/-- Block `t` of operand 23 is the whole array. -/
theorem whole23 (t : Fin cfg0.N) : iblk m c 23 t = V m c main_v17 := by
  funext y
  show V m c main_v17 (((cfg0.win 23).blk t).view.emb y) = _
  congr 1
  funext a; apply Fin.ext
  exact win0_23.rect_emb_val_of_index_zero t a
    ((by decide +kernel : ∀ (t : Fin cfg0.N) a, win0_23.index t a = 0) t a) y

/-- Operand 23 is argument 23. -/
theorem one_23 (t : Fin cfg0.N) : one (iblk m c 23 t) = Spec.vec (m ((c : Thread nD τ).loc main_arg23)) 0 := by
  rw [whole23]
  rw [V_v17 m c (by decide)]
  exact cast_vec1 _ _ 0

/-- Block `t` of operand 24 is the whole array. -/
theorem whole24 (t : Fin cfg0.N) : iblk m c 24 t = V m c main_v18 := by
  funext y
  show V m c main_v18 (((cfg0.win 24).blk t).view.emb y) = _
  congr 1
  funext a; apply Fin.ext
  exact win0_24.rect_emb_val_of_index_zero t a
    ((by decide +kernel : ∀ (t : Fin cfg0.N) a, win0_24.index t a = 0) t a) y

/-- Operand 24 is argument 24. -/
theorem w64_24 (t : Fin cfg0.N) : w64 (iblk m c 24 t) = Spec.bil (m ((c : Thread nD τ).loc main_arg24)) := by
  rw [whole24]
  rw [V_v18 m c (by decide)]
  funext i j
  exact cast_bil _ _ _ _

/-- Block `t` of operand 25 is the whole array. -/
theorem whole25 (t : Fin cfg0.N) : iblk m c 25 t = V m c main_v19 := by
  funext y
  show V m c main_v19 (((cfg0.win 25).blk t).view.emb y) = _
  congr 1
  funext a; apply Fin.ext
  exact win0_25.rect_emb_val_of_index_zero t a
    ((by decide +kernel : ∀ (t : Fin cfg0.N) a, win0_25.index t a = 0) t a) y

/-- Operand 25 is argument 25. -/
theorem one_25 (t : Fin cfg0.N) : one (iblk m c 25 t) = Spec.vec (m ((c : Thread nD τ).loc main_arg25)) 0 := by
  rw [whole25]
  rw [V_v19 m c (by decide)]
  exact cast_vec1 _ _ 0

/-! ## The rows in terms of the arguments -/

/-- The encoder's outputs for member `b`, of the first or of the second sequence. -/
def hid (s : Bool) : Fin 16384 → Fin 4 → Fin 64 → EReal :=
  Spec.hid (sel s (m ((c : Thread nD τ).loc main_arg0)) (m ((c : Thread nD τ).loc main_arg1))) (sel s (m ((c : Thread nD τ).loc main_arg4)) (m ((c : Thread nD τ).loc main_arg5))) (m ((c : Thread nD τ).loc main_arg6)) (m ((c : Thread nD τ).loc main_arg7)) (m ((c : Thread nD τ).loc main_arg8))

/-- The decoder's outputs for member `b`, of the third or of the fourth sequence. -/
def out (s : Bool) : Fin 16384 → Fin 4 → Fin 128 → EReal :=
  Spec.outK (sel s (m ((c : Thread nD τ).loc main_arg2)) (m ((c : Thread nD τ).loc main_arg3))) (sel s (m ((c : Thread nD τ).loc main_arg4)) (m ((c : Thread nD τ).loc main_arg5))) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Row `p` of block `t` encodes member `row t p`. -/
theorem hrow_eq (t : Fin cfg0.N) (p : Fin 256) (s : Bool) :
    hrow (iblk m c 0 t) (iblk m c 1 t) (iblk m c 4 t) (iblk m c 5 t) (iblk m c 6 t) (iblk m c 7 t) (iblk m c 8 t) p s
      = hid m c s (row t p) := by
  unfold hrow hid Spec.hid
  rw [w128_6, b64_7, one_8]
  cases s <;> simp only [sel]
  · rw [matA_4, rows_0]
  · rw [matA_5, rows_1]

/-- Row `p` of block `t` decodes member `row t p`. -/
theorem g6_eq (t : Fin cfg0.N) (p : Fin 256) (s : Bool) :
    g6 (iblk m c 2 t) (iblk m c 3 t) (iblk m c 4 t) (iblk m c 5 t) (iblk m c 9 t) (iblk m c 10 t) (iblk m c 11 t) (iblk m c 12 t) (iblk m c 13 t) (iblk m c 14 t) (iblk m c 15 t) (iblk m c 16 t) (iblk m c 17 t) p s
      = out m c s (row t p) := by
  show decK (matA (sel s (iblk m c 4 t) (iblk m c 5 t)) p) (rows (sel s (iblk m c 2 t) (iblk m c 3 t)) p) (w128 (iblk m c 12 t)) (w64 (iblk m c 13 t)) (w64 (iblk m c 14 t)) (w64 (iblk m c 15 t)) (b64 (iblk m c 16 t)) (one (iblk m c 17 t)) (wd (iblk m c 9 t)) (b128 (iblk m c 10 t)) (one (iblk m c 11 t)) = _
  unfold out Spec.outK
  rw [w128_12, w64_13, w64_14, w64_15, b64_16, one_17, wd_9, b128_10, one_11]
  cases s <;> simp only [sel]
  · rw [matA_4, rows_2]
  · rw [matA_5, rows_3]

/-! ## The output arrays -/

/-- Block `t` of array 26 starts at row `256 t`. -/
theorem index26 : ∀ t : Fin cfg0.N, win0_26.index t 0 = t ∧ win0_26.index t 1 = 0 := by decide +kernel

/-- Row `p` of block `t` of array 26. -/
theorem emb26 (t : Fin cfg0.N) (p : Fin 256) (e : Fin 512) :
    ((cfg0.win 26).blk t).view.emb (ix2 p e) = ix2 (row t p) e := by
  funext a; apply Fin.ext
  refine (win0_26.rect_emb_val t (ix2 p e) a).trans ?_
  fin_cases a
  · show win0_26.index t 0 * 256 + (p : ℕ) = 256 * t + p
    rw [(index26 t).1]; omega
  · show win0_26.index t 1 * 512 + (e : ℕ) = e
    rw [(index26 t).2]; omega

/-- Different blocks of array 26 share no element. -/
theorem disj26 (t t' : Fin cfg0.N) (h : t ≠ t') :
    Disjoint ((cfg0.win 26).blk t).view.set ((cfg0.win 26).blk t').view.set := by
  rw [Finset.disjoint_left]
  intro i hi hi'
  have e1 : i ∈ ((View.whole main_v20_0).slice (win0_26.rect t)).set := hi
  have e2 : i ∈ ((View.whole main_v20_0).slice (win0_26.rect t')).set := hi'
  rw [View.set_slice_whole, Rect.mem_set_unit] at e1 e2
  have g1 : win0_26.index t 0 * 256 ≤ (i 0 : ℕ) ∧ (i 0 : ℕ) < win0_26.index t 0 * 256 + 256 := e1 0
  have g2 : win0_26.index t' 0 * 256 ≤ (i 0 : ℕ) ∧ (i 0 : ℕ) < win0_26.index t' 0 * 256 + 256 := e2 0
  rw [(index26 _).1] at g1 g2
  exact h (Fin.ext (by omega))

/-- Array 26 in the end holds at row `256 t + p` what block `t` held at row `p`. -/
theorem arr26 (t : Fin cfg0.N) (p : Fin 256) (e : Fin 512) :
    (dats m 0 c).arrAt 26 cfg0.N (ix2 (row t p) e) = (dats m 0 c).after 26 t (ix2 p e) := by
  have h := (dats m 0 c).arrAt_emb_eq_flushed 26 (fun t t' _ _ h => disj26 t t' h) t (flush0_26 t) (ix2 p e)
  rw [emb26] at h
  exact h

/-- Block `t` of array 27 starts at row `256 t`. -/
theorem index27 : ∀ t : Fin cfg0.N, win0_27.index t 0 = t ∧ win0_27.index t 1 = 0 := by decide +kernel

/-- Row `p` of block `t` of array 27. -/
theorem emb27 (t : Fin cfg0.N) (p : Fin 256) (e : Fin 512) :
    ((cfg0.win 27).blk t).view.emb (ix2 p e) = ix2 (row t p) e := by
  funext a; apply Fin.ext
  refine (win0_27.rect_emb_val t (ix2 p e) a).trans ?_
  fin_cases a
  · show win0_27.index t 0 * 256 + (p : ℕ) = 256 * t + p
    rw [(index27 t).1]; omega
  · show win0_27.index t 1 * 512 + (e : ℕ) = e
    rw [(index27 t).2]; omega

/-- Different blocks of array 27 share no element. -/
theorem disj27 (t t' : Fin cfg0.N) (h : t ≠ t') :
    Disjoint ((cfg0.win 27).blk t).view.set ((cfg0.win 27).blk t').view.set := by
  rw [Finset.disjoint_left]
  intro i hi hi'
  have e1 : i ∈ ((View.whole main_v20_1).slice (win0_27.rect t)).set := hi
  have e2 : i ∈ ((View.whole main_v20_1).slice (win0_27.rect t')).set := hi'
  rw [View.set_slice_whole, Rect.mem_set_unit] at e1 e2
  have g1 : win0_27.index t 0 * 256 ≤ (i 0 : ℕ) ∧ (i 0 : ℕ) < win0_27.index t 0 * 256 + 256 := e1 0
  have g2 : win0_27.index t' 0 * 256 ≤ (i 0 : ℕ) ∧ (i 0 : ℕ) < win0_27.index t' 0 * 256 + 256 := e2 0
  rw [(index27 _).1] at g1 g2
  exact h (Fin.ext (by omega))

/-- Array 27 in the end holds at row `256 t + p` what block `t` held at row `p`. -/
theorem arr27 (t : Fin cfg0.N) (p : Fin 256) (e : Fin 512) :
    (dats m 0 c).arrAt 27 cfg0.N (ix2 (row t p) e) = (dats m 0 c).after 27 t (ix2 p e) := by
  have h := (dats m 0 c).arrAt_emb_eq_flushed 27 (fun t t' _ _ h => disj27 t t' h) t (flush0_27 t) (ix2 p e)
  rw [emb27] at h
  exact h

/-- Block `t` of array 28 starts at row `256 t`. -/
theorem index28 : ∀ t : Fin cfg0.N, win0_28.index t 0 = t ∧ win0_28.index t 1 = 0 := by decide +kernel

/-- Row `p` of block `t` of array 28. -/
theorem emb28 (t : Fin cfg0.N) (p : Fin 256) (e : Fin 8) :
    ((cfg0.win 28).blk t).view.emb (ix2 p e) = ix2 (row t p) e := by
  funext a; apply Fin.ext
  refine (win0_28.rect_emb_val t (ix2 p e) a).trans ?_
  fin_cases a
  · show win0_28.index t 0 * 256 + (p : ℕ) = 256 * t + p
    rw [(index28 t).1]; omega
  · show win0_28.index t 1 * 8 + (e : ℕ) = e
    rw [(index28 t).2]; omega

/-- Different blocks of array 28 share no element. -/
theorem disj28 (t t' : Fin cfg0.N) (h : t ≠ t') :
    Disjoint ((cfg0.win 28).blk t).view.set ((cfg0.win 28).blk t').view.set := by
  rw [Finset.disjoint_left]
  intro i hi hi'
  have e1 : i ∈ ((View.whole main_v20_2).slice (win0_28.rect t)).set := hi
  have e2 : i ∈ ((View.whole main_v20_2).slice (win0_28.rect t')).set := hi'
  rw [View.set_slice_whole, Rect.mem_set_unit] at e1 e2
  have g1 : win0_28.index t 0 * 256 ≤ (i 0 : ℕ) ∧ (i 0 : ℕ) < win0_28.index t 0 * 256 + 256 := e1 0
  have g2 : win0_28.index t' 0 * 256 ≤ (i 0 : ℕ) ∧ (i 0 : ℕ) < win0_28.index t' 0 * 256 + 256 := e2 0
  rw [(index28 _).1] at g1 g2
  exact h (Fin.ext (by omega))

/-- Array 28 in the end holds at row `256 t + p` what block `t` held at row `p`. -/
theorem arr28 (t : Fin cfg0.N) (p : Fin 256) (e : Fin 8) :
    (dats m 0 c).arrAt 28 cfg0.N (ix2 (row t p) e) = (dats m 0 c).after 28 t (ix2 p e) := by
  have h := (dats m 0 c).arrAt_emb_eq_flushed 28 (fun t t' _ _ h => disj28 t t' h) t (flush0_28 t) (ix2 p e)
  rw [emb28] at h
  exact h

/-- Block `t` of array 29 is its slab `t`. -/
theorem index29 : ∀ t : Fin cfg0.N, win0_29.index t 0 = t ∧ win0_29.index t 1 = 0 ∧ win0_29.index t 2 = 0 := by
  decide +kernel

/-- The slab of block `t` of array 29. -/
theorem emb29 (t : Fin cfg0.N) (k : Fin 8) (e : Fin 128) :
    ((cfg0.win 29).blk t).view.emb (ix3 0 k e) = ix3 (t : Fin 64) k e := by
  funext a; apply Fin.ext
  refine (win0_29.rect_emb_val t (ix3 0 k e) a).trans ?_
  fin_cases a
  · show win0_29.index t 0 * 1 + 0 = (t : ℕ)
    rw [(index29 t).1]; omega
  · show win0_29.index t 1 * 8 + (k : ℕ) = k
    rw [(index29 t).2.1]; omega
  · show win0_29.index t 2 * 128 + (e : ℕ) = e
    rw [(index29 t).2.2]; omega

/-- Different blocks of array 29 share no element. -/
theorem disj29 (t t' : Fin cfg0.N) (h : t ≠ t') :
    Disjoint ((cfg0.win 29).blk t).view.set ((cfg0.win 29).blk t').view.set := by
  rw [Finset.disjoint_left]
  intro i hi hi'
  have e1 : i ∈ ((View.whole main_v20_3).slice (win0_29.rect t)).set := hi
  have e2 : i ∈ ((View.whole main_v20_3).slice (win0_29.rect t')).set := hi'
  rw [View.set_slice_whole, Rect.mem_set_unit] at e1 e2
  have g1 : win0_29.index t 0 * 1 ≤ (i 0 : ℕ) ∧ (i 0 : ℕ) < win0_29.index t 0 * 1 + 1 := e1 0
  have g2 : win0_29.index t' 0 * 1 ≤ (i 0 : ℕ) ∧ (i 0 : ℕ) < win0_29.index t' 0 * 1 + 1 := e2 0
  rw [(index29 _).1] at g1 g2
  exact h (Fin.ext (by omega))

/-- Array 29 in the end holds in slab `t` what block `t` held. -/
theorem arr29 (t : Fin cfg0.N) (k : Fin 8) (e : Fin 128) :
    (dats m 0 c).arrAt 29 cfg0.N (ix3 (t : Fin 64) k e) = (dats m 0 c).after 29 t (ix3 0 k e) := by
  have h := (dats m 0 c).arrAt_emb_eq_flushed 29 (fun t t' _ _ h => disj29 t t' h) t (flush0_29 t) (ix3 0 k e)
  rw [emb29] at h
  exact h

/-- Output 26 at member `row t p`: its decoded vectors. -/
theorem final26 (t : Fin cfg0.N) (p : Fin 256) (i : Fin 4) (d : Fin 128) :
    (dats m 0 c).arrAt 26 cfg0.N (ix2 (row t p) (at512 i d)) = out m c false (row t p) i d := by
  rw [arr26, after0_26, ← g6_eq]
  fin_cases i
  · exact out26_0 ..
  · exact out26_1 ..
  · exact out26_2 ..
  · exact out26_3 ..

/-- Output 27 at member `row t p`: its decoded vectors. -/
theorem final27 (t : Fin cfg0.N) (p : Fin 256) (i : Fin 4) (d : Fin 128) :
    (dats m 0 c).arrAt 27 cfg0.N (ix2 (row t p) (at512 i d)) = out m c true (row t p) i d := by
  rw [arr27, after0_27, ← g6_eq]
  fin_cases i
  · exact out27_0 ..
  · exact out27_1 ..
  · exact out27_2 ..
  · exact out27_3 ..

/-- Column 0 of output 28 at member `row t p`. -/
theorem final28_0 (t : Fin cfg0.N) (p : Fin 256) :
    (dats m 0 c).arrAt 28 cfg0.N (ix2 (row t p) 0)
      = score (Spec.bil (m ((c : Thread nD τ).loc main_arg18))) (Spec.vec (m ((c : Thread nD τ).loc main_arg19)) 0) (hid m c false (row t p) 3) (mean (hid m c false (row t p))) := by
  rw [arr28, after0_28, sc0, w64_18, one_19]
  simp only [hrow_eq]

/-- Column 1 of output 28 at member `row t p`. -/
theorem final28_1 (t : Fin cfg0.N) (p : Fin 256) :
    (dats m 0 c).arrAt 28 cfg0.N (ix2 (row t p) 1)
      = score (Spec.bil (m ((c : Thread nD τ).loc main_arg18))) (Spec.vec (m ((c : Thread nD τ).loc main_arg19)) 0) (hid m c false (row t p) 3) (mean (hid m c false (row t (prev p)))) := by
  rw [arr28, after0_28, sc1, w64_18, one_19]
  simp only [hrow_eq]

/-- Column 2 of output 28 at member `row t p`. -/
theorem final28_2 (t : Fin cfg0.N) (p : Fin 256) :
    (dats m 0 c).arrAt 28 cfg0.N (ix2 (row t p) 2)
      = score (Spec.bil (m ((c : Thread nD τ).loc main_arg20))) (Spec.vec (m ((c : Thread nD τ).loc main_arg21)) 0) (hid m c true (row t p) 3) (mean (hid m c true (row t p))) := by
  rw [arr28, after0_28, sc2, w64_20, one_21]
  simp only [hrow_eq]

/-- Column 3 of output 28 at member `row t p`. -/
theorem final28_3 (t : Fin cfg0.N) (p : Fin 256) :
    (dats m 0 c).arrAt 28 cfg0.N (ix2 (row t p) 3)
      = score (Spec.bil (m ((c : Thread nD τ).loc main_arg20))) (Spec.vec (m ((c : Thread nD τ).loc main_arg21)) 0) (hid m c true (row t p) 3) (mean (hid m c true (row t (prev p)))) := by
  rw [arr28, after0_28, sc3, w64_20, one_21]
  simp only [hrow_eq]

/-- Column 4 of output 28 at member `row t p`. -/
theorem final28_4 (t : Fin cfg0.N) (p : Fin 256) :
    (dats m 0 c).arrAt 28 cfg0.N (ix2 (row t p) 4)
      = score (Spec.bil (m ((c : Thread nD τ).loc main_arg22))) (Spec.vec (m ((c : Thread nD τ).loc main_arg23)) 0) (hid m c false (row t p) 3) (hid m c false (row t p) 2) := by
  rw [arr28, after0_28, sc4, w64_22, one_23]
  simp only [hrow_eq]

/-- Column 5 of output 28 at member `row t p`. -/
theorem final28_5 (t : Fin cfg0.N) (p : Fin 256) :
    (dats m 0 c).arrAt 28 cfg0.N (ix2 (row t p) 5)
      = score (Spec.bil (m ((c : Thread nD τ).loc main_arg22))) (Spec.vec (m ((c : Thread nD τ).loc main_arg23)) 0) (hid m c false (row t p) 3) (hid m c false (row t (prev p)) 2) := by
  rw [arr28, after0_28, sc5, w64_22, one_23]
  simp only [hrow_eq]

/-- Column 6 of output 28 at member `row t p`. -/
theorem final28_6 (t : Fin cfg0.N) (p : Fin 256) :
    (dats m 0 c).arrAt 28 cfg0.N (ix2 (row t p) 6)
      = score (Spec.bil (m ((c : Thread nD τ).loc main_arg24))) (Spec.vec (m ((c : Thread nD τ).loc main_arg25)) 0) (hid m c false (row t p) 3) (hid m c false (row t p) 2) := by
  rw [arr28, after0_28, sc6, w64_24, one_25]
  simp only [hrow_eq]

/-- Column 7 of output 28 at member `row t p`. -/
theorem final28_7 (t : Fin cfg0.N) (p : Fin 256) :
    (dats m 0 c).arrAt 28 cfg0.N (ix2 (row t p) 7)
      = score (Spec.bil (m ((c : Thread nD τ).loc main_arg24))) (Spec.vec (m ((c : Thread nD τ).loc main_arg25)) 0) (hid m c false (row t p) 3) (hid m c false (row t (prev p)) 2) := by
  rw [arr28, after0_28, sc7, w64_24, one_25]
  simp only [hrow_eq]

/-- Row 0 of slab `t` of output 29. -/
theorem final29_0 (t : Fin cfg0.N) (s : Bool) (o : Fin 64) :
    (dats m 0 c).arrAt 29 cfg0.N (ix3 (t : Fin 64) 0 (lane s o))
      = ∑ i, hid m c false (row t 0) 3 i * Spec.bil (sel s (m ((c : Thread nD τ).loc main_arg18)) (m ((c : Thread nD τ).loc main_arg22))) i o := by
  rw [arr29, after0_29, ex0]
  simp only [hrow_eq]
  cases s <;> simp only [sel]
  · rw [w64_18]
  · rw [w64_22]

/-- Row 1 of slab `t` of output 29. -/
theorem final29_1 (t : Fin cfg0.N) (s : Bool) (o : Fin 64) :
    (dats m 0 c).arrAt 29 cfg0.N (ix3 (t : Fin 64) 1 (lane s o))
      = ∑ i, hid m c s (row t 0) 3 i * Spec.bil (sel s (m ((c : Thread nD τ).loc main_arg24)) (m ((c : Thread nD τ).loc main_arg20))) i o := by
  rw [arr29, after0_29, ex1]
  simp only [hrow_eq]
  cases s <;> simp only [sel]
  · rw [w64_24]
  · rw [w64_20]

/-- Row 2 of slab `t` of output 29. -/
theorem final29_2 (t : Fin cfg0.N) (s : Bool) (o : Fin 64) :
    (dats m 0 c).arrAt 29 cfg0.N (ix3 (t : Fin 64) 2 (lane s o))
      = sel s (mean (hid m c false (row t 255)) o) (hid m c false (row t 255) 2 o) := by
  rw [arr29, after0_29, ex2]
  simp only [hrow_eq]

/-- Row 3 of slab `t` of output 29. -/
theorem final29_3 (t : Fin cfg0.N) (s : Bool) (o : Fin 64) :
    (dats m 0 c).arrAt 29 cfg0.N (ix3 (t : Fin 64) 3 (lane s o))
      = sel s (hid m c false (row t 255) 2 o) (mean (hid m c true (row t 255)) o) := by
  rw [arr29, after0_29, ex3]
  simp only [hrow_eq]

/-- Row 4 of slab `t` of output 29. -/
theorem final29_4 (t : Fin cfg0.N) (s : Bool) (o : Fin 64) :
    (dats m 0 c).arrAt 29 cfg0.N (ix3 (t : Fin 64) 4 (lane s o))
      = sel s (mean (hid m c false (row t 254)) o) (hid m c false (row t 254) 2 o) := by
  rw [arr29, after0_29, ex4]
  simp only [hrow_eq]

end Cert.Block

end
-- ==== Proof.Tail.lean ====
/- What the host computes after the grid: the rows before the first rows of the blocks, the scores that cross from one
   block to the next, and the columns of scores put together. Each step is a function of arrays, read at an index. -/
module

public import proofs.«01_k».proof.Proof.Arrays
public import Idealize.ShloMosaic.Lib.StableHlo.RunRead
public import Idealize.ShloMosaic.Lib.Routing.OpsPair
public import Idealize.ShloMosaic.Lib.Routing.OpsSet

@[expose] public section

set_option maxRecDepth 16384

noncomputable section

namespace Cert.Tail

open Cert.KernelIdeal Cert.KernelIdeal.Gen Cert.KernelIdeal.Facts Cert.Model
open Idealize.ShloMosaic Idealize.ShloMosaic.TcCoe

/-! ## Pieces of the slabs -/

variable (ex : FVec Ideal S64x8x128 .f32)

/-- Row 0, first lanes. -/
def e0lo : FVec Ideal S64x64 .f32 :=
  shapeCast S64x64 (extractStridedSlice S64x1x64 ![0, 0, 0] ex slices_S64x8x128_S64x1x64_0_0_0) shapeCasts_S64x1x64_S64x64

/-- Row 0, last lanes. -/
def e0hi : FVec Ideal S64x64 .f32 :=
  shapeCast S64x64 (extractStridedSlice S64x1x64 ![0, 0, 64] ex slices_S64x8x128_S64x1x64_0_0_64) shapeCasts_S64x1x64_S64x64

/-- Row 1, first lanes. -/
def e1lo : FVec Ideal S64x64 .f32 :=
  shapeCast S64x64 (extractStridedSlice S64x1x64 ![0, 1, 0] ex slices_S64x8x128_S64x1x64_0_1_0) shapeCasts_S64x1x64_S64x64

/-- Row 1, last lanes. -/
def e1hi : FVec Ideal S64x64 .f32 :=
  shapeCast S64x64 (extractStridedSlice S64x1x64 ![0, 1, 64] ex slices_S64x8x128_S64x1x64_0_1_64) shapeCasts_S64x1x64_S64x64

/-- Row 2, first lanes. -/
def e2lo : FVec Ideal S64x64 .f32 :=
  shapeCast S64x64 (extractStridedSlice S64x1x64 ![0, 2, 0] ex slices_S64x8x128_S64x1x64_0_2_0) shapeCasts_S64x1x64_S64x64

/-- Row 2, last lanes. -/
def e2hi : FVec Ideal S64x64 .f32 :=
  shapeCast S64x64 (extractStridedSlice S64x1x64 ![0, 2, 64] ex slices_S64x8x128_S64x1x64_0_2_64) shapeCasts_S64x1x64_S64x64

/-- Row 3, last lanes. -/
def e3hi : FVec Ideal S64x64 .f32 :=
  shapeCast S64x64 (extractStridedSlice S64x1x64 ![0, 3, 64] ex slices_S64x8x128_S64x1x64_0_3_64) shapeCasts_S64x1x64_S64x64

/-- Row 4, last lanes. -/
def e4hi : FVec Ideal S64x64 .f32 :=
  shapeCast S64x64 (extractStridedSlice S64x1x64 ![0, 4, 64] ex slices_S64x8x128_S64x1x64_0_4_64) shapeCasts_S64x1x64_S64x64

/-- Row 0, first lanes, at an index. -/
theorem e0lo_at (t o : Fin 64) : e0lo ex (ix2 t o) = ex (ix3 t 0 (Block.lane false o)) := by
  simp only [Block.lane]; pointwise [e0lo]

/-- Row 0, last lanes, at an index. -/
theorem e0hi_at (t o : Fin 64) : e0hi ex (ix2 t o) = ex (ix3 t 0 (Block.lane true o)) := by
  simp only [Block.lane]; pointwise [e0hi]

/-- Row 1, first lanes, at an index. -/
theorem e1lo_at (t o : Fin 64) : e1lo ex (ix2 t o) = ex (ix3 t 1 (Block.lane false o)) := by
  simp only [Block.lane]; pointwise [e1lo]

/-- Row 1, last lanes, at an index. -/
theorem e1hi_at (t o : Fin 64) : e1hi ex (ix2 t o) = ex (ix3 t 1 (Block.lane true o)) := by
  simp only [Block.lane]; pointwise [e1hi]

/-- Row 2, first lanes, at an index. -/
theorem e2lo_at (t o : Fin 64) : e2lo ex (ix2 t o) = ex (ix3 t 2 (Block.lane false o)) := by
  simp only [Block.lane]; pointwise [e2lo]

/-- Row 2, last lanes, at an index. -/
theorem e2hi_at (t o : Fin 64) : e2hi ex (ix2 t o) = ex (ix3 t 2 (Block.lane true o)) := by
  simp only [Block.lane]; pointwise [e2hi]

/-- Row 3, last lanes, at an index. -/
theorem e3hi_at (t o : Fin 64) : e3hi ex (ix2 t o) = ex (ix3 t 3 (Block.lane true o)) := by
  simp only [Block.lane]; pointwise [e3hi]

/-- Row 4, last lanes, at an index. -/
theorem e4hi_at (t o : Fin 64) : e4hi ex (ix2 t o) = ex (ix3 t 4 (Block.lane true o)) := by
  simp only [Block.lane]; pointwise [e4hi]

/-! ## The row before -/

/-- Row `t` moved to row `t + 1`, the last one to row 0. -/
def roll (v : FVec Ideal S64x64 .f32) : FVec Ideal S64x64 .f32 :=
  concatenate S64x64 0 [⟨S1x64, extractStridedSlice S1x64 ![63, 0] v slices_S64x64_S1x64_63_0⟩,
    ⟨S63x64, extractStridedSlice S63x64 ![0, 0] v slices_S64x64_S63x64_0_0⟩] concatenates_S1x64_S63x64_S64x64_d0

/-- The block before block `t`; before the first one comes the last. -/
def back (t : Fin 64) : Fin 64 := if t = 0 then 63 else ⟨t - 1, by omega⟩

/-- Row `t` of the moved array is the row before. -/
theorem roll_at (v : FVec Ideal S64x64 .f32) (t o : Fin 64) : roll v (ix2 t o) = v (ix2 (back t) o) := by
  pointwise [roll]
  unfold back
  by_cases h : (t : ℕ) < 1
  · have ht : t = 0 := Fin.ext (by omega)
    subst ht
    rfl
  · have ht : t ≠ 0 := fun e => h (by rw [e]; exact Nat.zero_lt_one)
    rw [dif_neg h, if_neg ht]

/-- Row 0 of the first array replaced by row 63 of the second. -/
def wrap (x v : FVec Ideal S64x64 .f32) : FVec Ideal S64x64 .f32 :=
  Host.scatter scatter_S64x64_S1_S64_0_0_0_0 (fun _ b => b) x (broadcastInDim S1 ![] bcast_S_S1 (constantI S_ 32 0#32))
    (shapeCast S64 (extractStridedSlice S1x64 ![63, 0] v slices_S64x64_S1x64_63_0) shapeCasts_S1x64_S64)

/-- Which element a number of the new row lands at: its own column of row 0. -/
theorem wrap_lands (k : S64.Idx) (idx : IVec S1 32) (hi : ∀ j, idx j = 0#32) (t o : Fin 64) :
    scatter_S64x64_S1_S64_0_0_0_0.resultIdx? k idx = some (ix2 t o) ↔ t = 0 ∧ k 0 = o := by
  rw [Routing.resultIdx?_eq_some]
  have s0 : scatter_S64x64_S1_S64_0_0_0_0.start k idx 0 = 0 := by
    show BitVec.toInt (idx _) = 0
    rw [hi]; rfl
  have s1 : scatter_S64x64_S1_S64_0_0_0_0.start k idx 1 = 0 := rfl
  have w0 : scatter_S64x64_S1_S64_0_0_0_0.window k 0 = 0 := rfl
  have w1 : scatter_S64x64_S1_S64_0_0_0_0.window k 1 = (k 0 : ℕ) := rfl
  constructor
  · intro h
    have h0 := h 0
    have h1 := h 1
    rw [s0, w0] at h0
    rw [s1, w1] at h1
    have h0' : (0 : Int) + ((0 : ℕ) : Int) = ((t : ℕ) : Int) := h0
    have h1' : (0 : Int) + ((k 0 : ℕ) : Int) = ((o : ℕ) : Int) := h1
    exact ⟨Fin.ext (by show (t : ℕ) = 0; omega), Fin.ext (by omega)⟩
  · rintro ⟨rfl, rfl⟩ a
    fin_cases a
    · exact (congrArg₂ (fun a (b : ℕ) => a + (b : Int)) s0 w0)
    · exact (congrArg₂ (fun a (b : ℕ) => a + (b : Int)) s1 w1).trans (Int.zero_add _)

/-- The array with row 0 replaced, at an index. -/
theorem wrap_at (x v : FVec Ideal S64x64 .f32) (t o : Fin 64) :
    wrap x v (ix2 t o) = if t = 0 then v (ix2 63 o) else x (ix2 t o) := by
  have hi : ∀ j, (broadcastInDim S1 ![] bcast_S_S1 (constantI S_ 32 0#32) : IVec S1 32) j = 0#32 := fun _ => rfl
  split_ifs with h
  · refine Routing.scatter_set_hit _ _ _ _ _ _ (fun k hk => ?_) (ix1 o) ((wrap_lands _ _ hi _ _).2 ⟨h, rfl⟩)
    obtain ⟨-, hk⟩ := (wrap_lands _ _ hi _ _).1 hk
    have e : k = ix1 o := by funext a; fin_cases a; exact hk
    subst e
    pointwise []
  · exact Routing.scatter_set_miss _ _ _ _ _ fun k hk => h ((wrap_lands _ _ hi _ _).1 hk).1

/-! ## The scores of the blocks' first rows -/

/-- The products of two arrays' rows summed, and a number added. -/
def dot (a b : FVec Ideal S64x64 .f32) (v : FVec Ideal S1 .f32) : FVec Ideal S64 .f32 :=
  addf (Host.reduceAdd (mulf a b) (constant S_ .f32 0x00000000#32) reducesTo_S64x64_S64_d1 h_S_)
    (broadcastInDim S64 ![] bcast_S_S64 (shapeCast S_ v shapeCasts_S1_S_))

/-- The sum of products, at an index. -/
theorem dot_at (a b : FVec Ideal S64x64 .f32) (v : FVec Ideal S1 .f32) (t : Fin 64) :
    dot a b v (ix1 t) = ∑ o, a (ix2 t o) * b (ix2 t o) + v (ix1 0) := by
  pointwise [dot]

/-- Numbers put in place of column `w` of the first rows of the blocks. -/
def put (w : BitVec 32) (x : FVec Ideal S64x256x8 .f32) (u : FVec Ideal S64 .f32) : FVec Ideal S64x256x8 .f32 :=
  Host.scatter scatter_S64x256x8_S2_S64_0_12_12_0 (fun _ b => b) x
    (concatenate S2 0 [⟨S1, broadcastInDim S1 ![] bcast_S_S1 (constantI S_ 32 0#32)⟩, ⟨S1, broadcastInDim S1 ![] bcast_S_S1 (constantI S_ 32 w)⟩]
      concatenates_S1_S1_S2_d0) u

/-- Which element a number lands at: row 0 of its block, in the named column. -/
theorem put_lands (k : S64.Idx) (idx : IVec S2 32) (w : Fin 8) (h0 : (idx (ix1 0)).toInt = 0) (h1 : (idx (ix1 1)).toInt = (w : ℕ))
    (t : Fin 64) (p : Fin 256) (q : Fin 8) :
    scatter_S64x256x8_S2_S64_0_12_12_0.resultIdx? k idx = some (ix3 t p q) ↔ k 0 = t ∧ p = 0 ∧ q = w := by
  rw [Routing.resultIdx?_eq_some]
  have i0 : scatter_S64x256x8_S2_S64_0_12_12_0.siIdx k ⟨0, by decide⟩ = ix1 0 := by funext a; fin_cases a; rfl
  have i1 : scatter_S64x256x8_S2_S64_0_12_12_0.siIdx k ⟨1, by decide⟩ = ix1 1 := by funext a; fin_cases a; rfl
  have s0 : scatter_S64x256x8_S2_S64_0_12_12_0.start k idx 0 = 0 := rfl
  have s1 : scatter_S64x256x8_S2_S64_0_12_12_0.start k idx 1 = 0 :=
    (congrArg (fun j => BitVec.toInt (idx j)) i0).trans h0
  have s2 : scatter_S64x256x8_S2_S64_0_12_12_0.start k idx 2 = (w : ℕ) :=
    (congrArg (fun j => BitVec.toInt (idx j)) i1).trans h1
  have w0 : scatter_S64x256x8_S2_S64_0_12_12_0.window k 0 = (k 0 : ℕ) := rfl
  have w1 : scatter_S64x256x8_S2_S64_0_12_12_0.window k 1 = 0 := rfl
  have w2 : scatter_S64x256x8_S2_S64_0_12_12_0.window k 2 = 0 := rfl
  constructor
  · intro h
    have g0 := h 0
    have g1 := h 1
    have g2 := h 2
    rw [s0, w0] at g0
    rw [s1, w1] at g1
    rw [s2, w2] at g2
    have g0' : (0 : Int) + ((k 0 : ℕ) : Int) = ((t : ℕ) : Int) := g0
    have g1' : (0 : Int) + ((0 : ℕ) : Int) = ((p : ℕ) : Int) := g1
    have g2' : ((w : ℕ) : Int) + ((0 : ℕ) : Int) = ((q : ℕ) : Int) := g2
    exact ⟨Fin.ext (by omega), Fin.ext (by show (p : ℕ) = 0; omega), Fin.ext (by omega)⟩
  · rintro ⟨rfl, rfl, rfl⟩ a
    fin_cases a
    · exact (congrArg₂ (fun a (b : ℕ) => a + (b : Int)) s0 w0).trans (Int.zero_add _)
    · exact (congrArg₂ (fun a (b : ℕ) => a + (b : Int)) s1 w1)
    · exact (congrArg₂ (fun a (b : ℕ) => a + (b : Int)) s2 w2).trans (Int.add_zero _)

/-- The array with the numbers put in, at an index. -/
theorem put_at (w : BitVec 32) (q' : Fin 8) (hw : w.toInt = (q' : ℕ)) (x : FVec Ideal S64x256x8 .f32) (u : FVec Ideal S64 .f32)
    (t : Fin 64) (p : Fin 256) (q : Fin 8) :
    put w x u (ix3 t p q) = if p = 0 ∧ q = q' then u (ix1 t) else x (ix3 t p q) := by
  have h0 : (((concatenate S2 0 [⟨S1, broadcastInDim S1 ![] bcast_S_S1 (constantI S_ 32 0#32)⟩, ⟨S1, broadcastInDim S1 ![] bcast_S_S1 (constantI S_ 32 w)⟩]
      concatenates_S1_S1_S2_d0) : IVec S2 32) (ix1 0)).toInt = 0 := rfl
  have h1 : (((concatenate S2 0 [⟨S1, broadcastInDim S1 ![] bcast_S_S1 (constantI S_ 32 0#32)⟩, ⟨S1, broadcastInDim S1 ![] bcast_S_S1 (constantI S_ 32 w)⟩]
      concatenates_S1_S1_S2_d0) : IVec S2 32) (ix1 1)).toInt = (q' : ℕ) := hw
  split_ifs with h
  · refine Routing.scatter_set_hit _ _ _ _ _ _ (fun k hk => ?_) (ix1 t) ((put_lands _ _ q' h0 h1 _ _ _).2 ⟨rfl, h.1, h.2⟩)
    obtain ⟨hk, -⟩ := (put_lands _ _ q' h0 h1 _ _ _).1 hk
    have e : k = ix1 t := by funext a; fin_cases a; exact hk
    rw [e]
  · exact Routing.scatter_set_miss _ _ _ _ _ fun k hk => h ((put_lands _ _ q' h0 h1 _ _ _).1 hk).2

/-! ## The table of scores and its columns -/

variable (sc : FVec Ideal S16384x8 .f32) (v1 v2 v3 v4 : FVec Ideal S1 .f32)

/-- The first score of each block's first row against the last row of the block before. -/
def first1 : FVec Ideal S64 .f32 := dot (e0lo ex) (roll (e2lo ex)) v1

/-- The second score of each block's first row against the last row of the block before. -/
def first2 : FVec Ideal S64 .f32 := dot (e1hi ex) (roll (e3hi ex)) v2

/-- The third score of each block's first row against the last row of the block before; the very first against the last
row but one. -/
def first3 : FVec Ideal S64 .f32 := dot (e0hi ex) (wrap (roll (e2hi ex)) (e4hi ex)) v3

/-- The fourth score of each block's first row, likewise. -/
def first4 : FVec Ideal S64 .f32 := dot (e1lo ex) (wrap (roll (e2hi ex)) (e4hi ex)) v4

/-- The table of scores, the first rows of the blocks mended. -/
def table : FVec Ideal S16384x8 .f32 :=
  shapeCast S16384x8 (put 7#32 (put 5#32 (put 3#32 (put 1#32 (shapeCast S64x256x8 sc shapeCasts_S16384x8_S64x256x8)
    (first1 ex v1)) (first2 ex v2)) (first3 ex v3)) (first4 ex v4)) shapeCasts_S64x256x8_S16384x8

/-- The table cut into blocks. -/
theorem cut_at (h : S16384x8.ShapeCasts S64x256x8) (t : Fin 64) (p : Fin 256) (q : Fin 8) :
    shapeCast S64x256x8 sc h (ix3 t p q) = sc (ix2 (Block.row t p) q) :=
  shapeCast_apply sc h _ _ (by
    rw [Shape.rowMajor_val_three, Shape.rowMajor_val_two]
    show (256 * (t : ℕ) + p) * 8 + q = ((t : ℕ) * 256 + p) * 8 + q
    omega)

/-- The blocks put together again. -/
theorem join_at (x : FVec Ideal S64x256x8 .f32) (h : S64x256x8.ShapeCasts S16384x8) (t : Fin 64) (p : Fin 256) (q : Fin 8) :
    shapeCast S16384x8 x h (ix2 (Block.row t p) q) = x (ix3 t p q) :=
  shapeCast_apply x h _ _ (by
    rw [Shape.rowMajor_val_three, Shape.rowMajor_val_two]
    show ((t : ℕ) * 256 + p) * 8 + q = (256 * (t : ℕ) + p) * 8 + q
    omega)

/-- Column 0 of the table. -/
theorem table_0 (t : Fin 64) (p : Fin 256) :
    table ex sc v1 v2 v3 v4 (ix2 (Block.row t p) 0) = sc (ix2 (Block.row t p) 0) := by
  rw [table, join_at]
  rw [put_at _ 7 rfl, if_neg fun g => absurd g.2 (by decide)]
  rw [put_at _ 5 rfl, if_neg fun g => absurd g.2 (by decide)]
  rw [put_at _ 3 rfl, if_neg fun g => absurd g.2 (by decide)]
  rw [put_at _ 1 rfl, if_neg fun g => absurd g.2 (by decide)]
  rw [cut_at]

/-- Column 1 of the table. -/
theorem table_1 (t : Fin 64) (p : Fin 256) :
    table ex sc v1 v2 v3 v4 (ix2 (Block.row t p) 1) = if p = 0 then first1 ex v1 (ix1 t) else sc (ix2 (Block.row t p) 1) := by
  rw [table, join_at]
  rw [put_at _ 7 rfl, if_neg fun g => absurd g.2 (by decide)]
  rw [put_at _ 5 rfl, if_neg fun g => absurd g.2 (by decide)]
  rw [put_at _ 3 rfl, if_neg fun g => absurd g.2 (by decide)]
  rw [put_at _ 1 rfl]
  by_cases h : p = 0
  · rw [if_pos ⟨h, rfl⟩, if_pos h]
  · rw [if_neg fun g => h g.1, if_neg h]
    rw [cut_at]

/-- Column 2 of the table. -/
theorem table_2 (t : Fin 64) (p : Fin 256) :
    table ex sc v1 v2 v3 v4 (ix2 (Block.row t p) 2) = sc (ix2 (Block.row t p) 2) := by
  rw [table, join_at]
  rw [put_at _ 7 rfl, if_neg fun g => absurd g.2 (by decide)]
  rw [put_at _ 5 rfl, if_neg fun g => absurd g.2 (by decide)]
  rw [put_at _ 3 rfl, if_neg fun g => absurd g.2 (by decide)]
  rw [put_at _ 1 rfl, if_neg fun g => absurd g.2 (by decide)]
  rw [cut_at]

/-- Column 3 of the table. -/
theorem table_3 (t : Fin 64) (p : Fin 256) :
    table ex sc v1 v2 v3 v4 (ix2 (Block.row t p) 3) = if p = 0 then first2 ex v2 (ix1 t) else sc (ix2 (Block.row t p) 3) := by
  rw [table, join_at]
  rw [put_at _ 7 rfl, if_neg fun g => absurd g.2 (by decide)]
  rw [put_at _ 5 rfl, if_neg fun g => absurd g.2 (by decide)]
  rw [put_at _ 3 rfl]
  by_cases h : p = 0
  · rw [if_pos ⟨h, rfl⟩, if_pos h]
  · rw [if_neg fun g => h g.1, if_neg h]
    rw [put_at _ 1 rfl, if_neg fun g => absurd g.2 (by decide)]
    rw [cut_at]

/-- Column 4 of the table. -/
theorem table_4 (t : Fin 64) (p : Fin 256) :
    table ex sc v1 v2 v3 v4 (ix2 (Block.row t p) 4) = sc (ix2 (Block.row t p) 4) := by
  rw [table, join_at]
  rw [put_at _ 7 rfl, if_neg fun g => absurd g.2 (by decide)]
  rw [put_at _ 5 rfl, if_neg fun g => absurd g.2 (by decide)]
  rw [put_at _ 3 rfl, if_neg fun g => absurd g.2 (by decide)]
  rw [put_at _ 1 rfl, if_neg fun g => absurd g.2 (by decide)]
  rw [cut_at]

/-- Column 5 of the table. -/
theorem table_5 (t : Fin 64) (p : Fin 256) :
    table ex sc v1 v2 v3 v4 (ix2 (Block.row t p) 5) = if p = 0 then first3 ex v3 (ix1 t) else sc (ix2 (Block.row t p) 5) := by
  rw [table, join_at]
  rw [put_at _ 7 rfl, if_neg fun g => absurd g.2 (by decide)]
  rw [put_at _ 5 rfl]
  by_cases h : p = 0
  · rw [if_pos ⟨h, rfl⟩, if_pos h]
  · rw [if_neg fun g => h g.1, if_neg h]
    rw [put_at _ 3 rfl, if_neg fun g => absurd g.2 (by decide)]
    rw [put_at _ 1 rfl, if_neg fun g => absurd g.2 (by decide)]
    rw [cut_at]

/-- Column 6 of the table. -/
theorem table_6 (t : Fin 64) (p : Fin 256) :
    table ex sc v1 v2 v3 v4 (ix2 (Block.row t p) 6) = sc (ix2 (Block.row t p) 6) := by
  rw [table, join_at]
  rw [put_at _ 7 rfl, if_neg fun g => absurd g.2 (by decide)]
  rw [put_at _ 5 rfl, if_neg fun g => absurd g.2 (by decide)]
  rw [put_at _ 3 rfl, if_neg fun g => absurd g.2 (by decide)]
  rw [put_at _ 1 rfl, if_neg fun g => absurd g.2 (by decide)]
  rw [cut_at]

/-- Column 7 of the table. -/
theorem table_7 (t : Fin 64) (p : Fin 256) :
    table ex sc v1 v2 v3 v4 (ix2 (Block.row t p) 7) = if p = 0 then first4 ex v4 (ix1 t) else sc (ix2 (Block.row t p) 7) := by
  rw [table, join_at]
  rw [put_at _ 7 rfl]
  by_cases h : p = 0
  · rw [if_pos ⟨h, rfl⟩, if_pos h]
  · rw [if_neg fun g => h g.1, if_neg h]
    rw [put_at _ 5 rfl, if_neg fun g => absurd g.2 (by decide)]
    rw [put_at _ 3 rfl, if_neg fun g => absurd g.2 (by decide)]
    rw [put_at _ 1 rfl, if_neg fun g => absurd g.2 (by decide)]
    rw [cut_at]

/-- Columns 0 and 1 one under the other. -/
def col1 (x : FVec Ideal S16384x8 .f32) : FVec Ideal S32768x1 .f32 :=
  broadcastInDim S32768x1 ![0] bcast_S32768_S32768x1_0 (concatenate S32768 0
    [⟨S16384, shapeCast S16384 (extractStridedSlice S16384x1 ![0, 0] x slices_S16384x8_S16384x1_0_0) shapeCasts_S16384x1_S16384⟩,
      ⟨S16384, shapeCast S16384 (extractStridedSlice S16384x1 ![0, 1] x slices_S16384x8_S16384x1_0_1) shapeCasts_S16384x1_S16384⟩]
    concatenates_S16384_S16384_S32768_d0)

set_option maxRecDepth 200000 in
/-- The two columns at an index. -/
theorem col1_at (x : FVec Ideal S16384x8 .f32) (r : Fin 32768) (z : Fin 1) :
    col1 x (ix2 r z) = if h : (r : ℕ) < 16384 then x (ix2 ⟨r, h⟩ 0) else x (ix2 ⟨(r : ℕ) - 16384, by omega⟩ 1) := by
  pointwise [col1]

/-- Columns 2 and 3 one under the other. -/
def col2 (x : FVec Ideal S16384x8 .f32) : FVec Ideal S32768x1 .f32 :=
  broadcastInDim S32768x1 ![0] bcast_S32768_S32768x1_0 (concatenate S32768 0
    [⟨S16384, shapeCast S16384 (extractStridedSlice S16384x1 ![0, 2] x slices_S16384x8_S16384x1_0_2) shapeCasts_S16384x1_S16384⟩,
      ⟨S16384, shapeCast S16384 (extractStridedSlice S16384x1 ![0, 3] x slices_S16384x8_S16384x1_0_3) shapeCasts_S16384x1_S16384⟩]
    concatenates_S16384_S16384_S32768_d0)

set_option maxRecDepth 200000 in
/-- The two columns at an index. -/
theorem col2_at (x : FVec Ideal S16384x8 .f32) (r : Fin 32768) (z : Fin 1) :
    col2 x (ix2 r z) = if h : (r : ℕ) < 16384 then x (ix2 ⟨r, h⟩ 2) else x (ix2 ⟨(r : ℕ) - 16384, by omega⟩ 3) := by
  pointwise [col2]

/-- Columns 4 and 5 one under the other. -/
def col3 (x : FVec Ideal S16384x8 .f32) : FVec Ideal S32768x1 .f32 :=
  broadcastInDim S32768x1 ![0] bcast_S32768_S32768x1_0 (concatenate S32768 0
    [⟨S16384, shapeCast S16384 (extractStridedSlice S16384x1 ![0, 4] x slices_S16384x8_S16384x1_0_4) shapeCasts_S16384x1_S16384⟩,
      ⟨S16384, shapeCast S16384 (extractStridedSlice S16384x1 ![0, 5] x slices_S16384x8_S16384x1_0_5) shapeCasts_S16384x1_S16384⟩]
    concatenates_S16384_S16384_S32768_d0)

set_option maxRecDepth 200000 in
/-- The two columns at an index. -/
theorem col3_at (x : FVec Ideal S16384x8 .f32) (r : Fin 32768) (z : Fin 1) :
    col3 x (ix2 r z) = if h : (r : ℕ) < 16384 then x (ix2 ⟨r, h⟩ 4) else x (ix2 ⟨(r : ℕ) - 16384, by omega⟩ 5) := by
  pointwise [col3]

/-- Columns 6 and 7 one under the other. -/
def col4 (x : FVec Ideal S16384x8 .f32) : FVec Ideal S32768x1 .f32 :=
  broadcastInDim S32768x1 ![0] bcast_S32768_S32768x1_0 (concatenate S32768 0
    [⟨S16384, shapeCast S16384 (extractStridedSlice S16384x1 ![0, 6] x slices_S16384x8_S16384x1_0_6) shapeCasts_S16384x1_S16384⟩,
      ⟨S16384, shapeCast S16384 (extractStridedSlice S16384x1 ![0, 7] x slices_S16384x8_S16384x1_0_7) shapeCasts_S16384x1_S16384⟩]
    concatenates_S16384_S16384_S32768_d0)

set_option maxRecDepth 200000 in
/-- The two columns at an index. -/
theorem col4_at (x : FVec Ideal S16384x8 .f32) (r : Fin 32768) (z : Fin 1) :
    col4 x (ix2 r z) = if h : (r : ℕ) < 16384 then x (ix2 ⟨r, h⟩ 6) else x (ix2 ⟨(r : ℕ) - 16384, by omega⟩ 7) := by
  pointwise [col4]

/-- Rows of four vectors cut apart. -/
theorem split_at (x : FVec Ideal S16384x512 .f32) (h : S16384x512.ShapeCasts S16384x4x128) (b : Fin 16384) (j : Fin 4) (k : Fin 128) :
    shapeCast S16384x4x128 x h (ix3 b j k) = x (ix2 b (Block.at512 j k)) :=
  shapeCast_apply x h _ _ (by
    rw [Shape.rowMajor_val_three, Shape.rowMajor_val_two]
    show (b : ℕ) * 512 + (128 * j + k) = ((b : ℕ) * 4 + j) * 128 + k
    omega)

/-! ## The host's operations after the grid -/

variable (W : Valuation τ sig (Elt Ideal))

/-- The host's operations after the grid, from contents `W`. -/
abbrev tail (b : Ref sig .tc) : b.ty.Contents (Elt Ideal) :=
  StableHlo.after (List.flatten [hostOps1, hostOps1_1, hostOps1_2, hostOps1_3, hostOps1_4]) W (Proc.devRef .tc b)

/-- The table that the host builds. -/
abbrev tab : FVec Ideal S16384x8 .f32 :=
  table (W (Proc.devRef .tc main_v20_3)) (W (Proc.devRef .tc main_v20_2)) (W (Proc.devRef .tc main_arg19))
    (W (Proc.devRef .tc main_arg21)) (W (Proc.devRef .tc main_arg23)) (W (Proc.devRef .tc main_arg25))

set_option maxHeartbeats 4000000 in
/-- Result 1 of the host. -/
theorem tail_v87 : tail W main_v87 = col1 (tab W) := by
  show StableHlo.after (List.flatten [hostOps1, hostOps1_1, hostOps1_2, hostOps1_3, hostOps1_4]) W (Proc.devRef .tc main_v87) = _
  simp only [hostOps1, hostOps1_1, hostOps1_2, hostOps1_3, hostOps1_4, List.flatten_cons, List.flatten_nil, List.append_nil,
    List.cons_append, List.nil_append]
  after_results
  rfl

set_option maxHeartbeats 4000000 in
/-- Result 2 of the host. -/
theorem tail_v93 : tail W main_v93 = col2 (tab W) := by
  show StableHlo.after (List.flatten [hostOps1, hostOps1_1, hostOps1_2, hostOps1_3, hostOps1_4]) W (Proc.devRef .tc main_v93) = _
  simp only [hostOps1, hostOps1_1, hostOps1_2, hostOps1_3, hostOps1_4, List.flatten_cons, List.flatten_nil, List.append_nil,
    List.cons_append, List.nil_append]
  after_results
  rfl

set_option maxHeartbeats 4000000 in
/-- Result 3 of the host. -/
theorem tail_v99 : tail W main_v99 = col3 (tab W) := by
  show StableHlo.after (List.flatten [hostOps1, hostOps1_1, hostOps1_2, hostOps1_3, hostOps1_4]) W (Proc.devRef .tc main_v99) = _
  simp only [hostOps1, hostOps1_1, hostOps1_2, hostOps1_3, hostOps1_4, List.flatten_cons, List.flatten_nil, List.append_nil,
    List.cons_append, List.nil_append]
  after_results
  rfl

set_option maxHeartbeats 4000000 in
/-- Result 4 of the host. -/
theorem tail_v105 : tail W main_v105 = col4 (tab W) := by
  show StableHlo.after (List.flatten [hostOps1, hostOps1_1, hostOps1_2, hostOps1_3, hostOps1_4]) W (Proc.devRef .tc main_v105) = _
  simp only [hostOps1, hostOps1_1, hostOps1_2, hostOps1_3, hostOps1_4, List.flatten_cons, List.flatten_nil, List.append_nil,
    List.cons_append, List.nil_append]
  after_results
  rfl

/-- Result 5 of the host. -/
theorem tail_v106 : tail W main_v106 = shapeCast S16384x4x128 (W (Proc.devRef .tc main_v20_0)) shapeCasts_S16384x512_S16384x4x128 := by
  show StableHlo.after (List.flatten [hostOps1, hostOps1_1, hostOps1_2, hostOps1_3, hostOps1_4]) W (Proc.devRef .tc main_v106) = _
  simp only [hostOps1, hostOps1_1, hostOps1_2, hostOps1_3, hostOps1_4, List.flatten_cons, List.flatten_nil, List.append_nil,
    List.cons_append, List.nil_append]
  after_results
  rfl

/-- Result 6 of the host. -/
theorem tail_v107 : tail W main_v107 = shapeCast S16384x4x128 (W (Proc.devRef .tc main_v20_1)) shapeCasts_S16384x512_S16384x4x128 := by
  show StableHlo.after (List.flatten [hostOps1, hostOps1_1, hostOps1_2, hostOps1_3, hostOps1_4]) W (Proc.devRef .tc main_v107) = _
  simp only [hostOps1, hostOps1_1, hostOps1_2, hostOps1_3, hostOps1_4, List.flatten_cons, List.flatten_nil, List.append_nil,
    List.cons_append, List.nil_append]
  after_results
  rfl

end Cert.Tail

end
-- ==== Proof.Results.lean ====
/- The six results of the kernel as functions of its arguments. -/
module

public import proofs.«01_k».proof.Proof.Tail

@[expose] public section

set_option maxRecDepth 16384

noncomputable section

namespace Cert.Results

open Cert.KernelIdeal Cert.KernelIdeal.Gen Cert.KernelIdeal.Body Cert.KernelIdeal.Facts Cert.Model Cert.Block Cert.Tail
open Idealize.ShloMosaic Idealize.ShloMosaic.TcCoe

/-! ## The member before -/

/-- Every member is a row of a block. -/
theorem exists_row (b : Fin 16384) : ∃ (t : Fin 64) (p : Fin 256), b = row t p :=
  ⟨⟨b / 256, by omega⟩, ⟨b % 256, by omega⟩, Fin.ext (by show (b : ℕ) = 256 * (b / 256) + b % 256; omega)⟩

/-- Inside a block the member before is the row before. -/
theorem before_row (z : Fin 16384) (t : Fin 64) (p : Fin 256) (h : p ≠ 0) : Spec.before z (row t p) = row t (prev p) := by
  have hp : (p : ℕ) ≠ 0 := fun e => h (Fin.ext e)
  have hr : row t p ≠ 0 := fun e => hp (by have := congrArg Fin.val e; simp only [row] at this; change 256 * (t : ℕ) + p = 0 at this; omega)
  unfold Spec.before prev
  rw [if_neg hr, if_neg h]
  apply Fin.ext
  show 256 * (t : ℕ) + p - 1 = 256 * (t : ℕ) + (p - 1)
  omega

/-- Before the first row of a block that is not the first comes the last row of the block before. -/
theorem before_first (z : Fin 16384) (t : Fin 64) (h : t ≠ 0) : Spec.before z (row t 0) = row (back t) 255 := by
  have ht : (t : ℕ) ≠ 0 := fun e => h (Fin.ext e)
  have hr : row t 0 ≠ 0 := fun e => ht (by have := congrArg Fin.val e; simp only [row] at this; change 256 * (t : ℕ) + 0 = 0 at this; omega)
  unfold Spec.before back
  rw [if_neg hr, if_neg h]
  apply Fin.ext
  show 256 * (t : ℕ) + 0 - 1 = 256 * (t - 1) + 255
  omega

/-- Before the very first member comes `z`. -/
theorem before_zero (z : Fin 16384) : Spec.before z (row 0 0) = z := if_pos rfl

/-- With the last member before the first one, the blocks go round. -/
theorem before_last (t : Fin 64) : Spec.before 16383 (row t 0) = row (back t) 255 := by
  by_cases h : t = 0
  · subst h
    exact before_zero _
  · exact before_first _ t h

/-- A column of scores is right when the table's two columns are. -/
theorem scores_eq (z : Fin 16384) (w : Spec.Bil) (v : Spec.Row 1) (U C : Fin 16384 → Fin 64 → EReal)
    (y : FVec Ideal S32768x1 .f32) (f g : Fin 16384 → EReal)
    (hy : ∀ (r : Fin 32768) (q : Fin 1), y (ix2 r q) = if h : (r : ℕ) < 16384 then f ⟨r, h⟩ else g ⟨(r : ℕ) - 16384, by omega⟩)
    (hf : ∀ t p, f (row t p) = score (Spec.bil w) (Spec.vec v 0) (U (row t p)) (C (row t p)))
    (hg : ∀ t p, g (row t p) = score (Spec.bil w) (Spec.vec v 0) (U (row t p)) (C (Spec.before z (row t p)))) :
    y = Spec.scores z w v U C := by
  funext i
  obtain ⟨r, q, rfl⟩ : ∃ r q, i = ix2 r q := ⟨i 0, i 1, eq_ix2 i⟩
  rw [hy]
  show _ = if h : (r : ℕ) < 16384 then Spec.pair w v U C ⟨r, h⟩ else Spec.pair w v U (fun b => C (Spec.before z b)) ⟨(r : ℕ) - 16384, _⟩
  split_ifs with h
  · obtain ⟨t, p, e⟩ := exists_row ⟨r, h⟩
    rw [e]
    exact hf t p
  · obtain ⟨t, p, e⟩ := exists_row ⟨(r : ℕ) - 16384, by omega⟩
    rw [e]
    exact hg t p

variable (m : (ℓ : Loc nD τ sig) → Buf (Elt Ideal) ℓ) (c : Dev nD)

/-! ## What the host finds after the grid -/

/-- The contents after the grid. -/
def fin : Valuation τ sig (Elt Ideal) :=
  Pipeline.withArrays cfg0.spec c (V0 m c) fun w => (dats m 0 c).arrAt w cfg0.N

/-- Array 26 after the grid. -/
theorem fin_v20_0 : fin m c (Proc.devRef .tc main_v20_0) = (dats m 0 c).arrAt 26 cfg0.N :=
  Pipeline.withArrays_arr cfg0.spec (by decide) c (V0 m c) (fun w => (dats m 0 c).arrAt w cfg0.N) 26

/-- Array 27 after the grid. -/
theorem fin_v20_1 : fin m c (Proc.devRef .tc main_v20_1) = (dats m 0 c).arrAt 27 cfg0.N :=
  Pipeline.withArrays_arr cfg0.spec (by decide) c (V0 m c) (fun w => (dats m 0 c).arrAt w cfg0.N) 27

/-- Array 28 after the grid. -/
theorem fin_v20_2 : fin m c (Proc.devRef .tc main_v20_2) = (dats m 0 c).arrAt 28 cfg0.N :=
  Pipeline.withArrays_arr cfg0.spec (by decide) c (V0 m c) (fun w => (dats m 0 c).arrAt w cfg0.N) 28

/-- Array 29 after the grid. -/
theorem fin_v20_3 : fin m c (Proc.devRef .tc main_v20_3) = (dats m 0 c).arrAt 29 cfg0.N :=
  Pipeline.withArrays_arr cfg0.spec (by decide) c (V0 m c) (fun w => (dats m 0 c).arrAt w cfg0.N) 29

/-- Argument 19 after the grid. -/
theorem fin_arg19 : fin m c (Proc.devRef .tc main_arg19) = (m ((c : Thread nD τ).loc main_arg19)) :=
  (Pipeline.withArrays_of_ne cfg0.spec c (V0 m c) (fun w => (dats m 0 c).arrAt w cfg0.N) main_arg19 (by decide)).trans
    (V_main_arg19 m c)

/-- Argument 21 after the grid. -/
theorem fin_arg21 : fin m c (Proc.devRef .tc main_arg21) = (m ((c : Thread nD τ).loc main_arg21)) :=
  (Pipeline.withArrays_of_ne cfg0.spec c (V0 m c) (fun w => (dats m 0 c).arrAt w cfg0.N) main_arg21 (by decide)).trans
    (V_main_arg21 m c)

/-- Argument 23 after the grid. -/
theorem fin_arg23 : fin m c (Proc.devRef .tc main_arg23) = (m ((c : Thread nD τ).loc main_arg23)) :=
  (Pipeline.withArrays_of_ne cfg0.spec c (V0 m c) (fun w => (dats m 0 c).arrAt w cfg0.N) main_arg23 (by decide)).trans
    (V_main_arg23 m c)

/-- Argument 25 after the grid. -/
theorem fin_arg25 : fin m c (Proc.devRef .tc main_arg25) = (m ((c : Thread nD τ).loc main_arg25)) :=
  (Pipeline.withArrays_of_ne cfg0.spec c (V0 m c) (fun w => (dats m 0 c).arrAt w cfg0.N) main_arg25 (by decide)).trans
    (V_main_arg25 m c)

/-! ## The scores of the blocks' first rows -/

/-- The slabs after the grid. -/
abbrev slab : FVec Ideal S64x8x128 .f32 := (dats m 0 c).arrAt 29 cfg0.N

/-- The score 1 of a block's first row, against the member before. -/
theorem first1_eq (t : Fin 64) : first1 (slab m c) (m ((c : Thread nD τ).loc main_arg19)) (ix1 t)
    = score (Spec.bil (m ((c : Thread nD τ).loc main_arg18))) (Spec.vec (m ((c : Thread nD τ).loc main_arg19)) 0) (hid m c false (row t 0) 3) (mean (hid m c false (Spec.before 16383 (row t 0)))) := by
  rw [first1, dot_at]
  refine congrArg₂ (· + ·) (Finset.sum_congr rfl fun o _ => ?_) rfl
  rw [e0lo_at, roll_at, e2lo_at, before_last]
  exact congrArg₂ (· * ·) (final29_0 m c t false o) (final29_2 m c (back t) false o)

/-- The score 2 of a block's first row, against the member before. -/
theorem first2_eq (t : Fin 64) : first2 (slab m c) (m ((c : Thread nD τ).loc main_arg21)) (ix1 t)
    = score (Spec.bil (m ((c : Thread nD τ).loc main_arg20))) (Spec.vec (m ((c : Thread nD τ).loc main_arg21)) 0) (hid m c true (row t 0) 3) (mean (hid m c true (Spec.before 16383 (row t 0)))) := by
  rw [first2, dot_at]
  refine congrArg₂ (· + ·) (Finset.sum_congr rfl fun o _ => ?_) rfl
  rw [e1hi_at, roll_at, e3hi_at, before_last]
  exact congrArg₂ (· * ·) (final29_1 m c t true o) (final29_3 m c (back t) true o)

/-- The score 3 of a block's first row, against the member before. -/
theorem first3_eq (t : Fin 64) : first3 (slab m c) (m ((c : Thread nD τ).loc main_arg23)) (ix1 t)
    = score (Spec.bil (m ((c : Thread nD τ).loc main_arg22))) (Spec.vec (m ((c : Thread nD τ).loc main_arg23)) 0) (hid m c false (row t 0) 3) (hid m c false (Spec.before 16382 (row t 0)) 2) := by
  rw [first3, dot_at]
  refine congrArg₂ (· + ·) (Finset.sum_congr rfl fun o _ => ?_) rfl
  rw [e0hi_at, wrap_at, e4hi_at, roll_at, e2hi_at]
  refine congrArg₂ (· * ·) (final29_0 m c t true o) ?_
  split_ifs with h
  · subst h
    rw [before_zero]
    exact final29_4 m c (63 : Fin 64) true o
  · rw [before_first _ t h]
    exact final29_2 m c (back t) true o

/-- The score 4 of a block's first row, against the member before. -/
theorem first4_eq (t : Fin 64) : first4 (slab m c) (m ((c : Thread nD τ).loc main_arg25)) (ix1 t)
    = score (Spec.bil (m ((c : Thread nD τ).loc main_arg24))) (Spec.vec (m ((c : Thread nD τ).loc main_arg25)) 0) (hid m c false (row t 0) 3) (hid m c false (Spec.before 16382 (row t 0)) 2) := by
  rw [first4, dot_at]
  refine congrArg₂ (· + ·) (Finset.sum_congr rfl fun o _ => ?_) rfl
  rw [e1lo_at, wrap_at, e4hi_at, roll_at, e2hi_at]
  refine congrArg₂ (· * ·) (final29_1 m c t false o) ?_
  split_ifs with h
  · subst h
    rw [before_zero]
    exact final29_4 m c (63 : Fin 64) true o
  · rw [before_first _ t h]
    exact final29_2 m c (back t) true o

/-! ## The results -/

/-- The table after the grid, over the arrays. -/
theorem tab_eq : tab (fin m c) = table (slab m c) ((dats m 0 c).arrAt 28 cfg0.N) (m ((c : Thread nD τ).loc main_arg19)) (m ((c : Thread nD τ).loc main_arg21)) (m ((c : Thread nD τ).loc main_arg23)) (m ((c : Thread nD τ).loc main_arg25)) := by
  unfold tab
  rw [fin_v20_3, fin_v20_2, fin_arg19, fin_arg21, fin_arg23, fin_arg25]

/-- Result 1: the scores of the vectors 3 against the means. -/
theorem result1 : tail (fin m c) main_v87
    = Spec.scores 16383 (m ((c : Thread nD τ).loc main_arg18)) (m ((c : Thread nD τ).loc main_arg19)) (fun b => hid m c false b 3) (fun b => mean (hid m c false b)) := by
  rw [tail_v87, tab_eq]
  refine scores_eq 16383 _ _ _ _ _ (fun b => (table (slab m c) ((dats m 0 c).arrAt 28 cfg0.N) (m ((c : Thread nD τ).loc main_arg19)) (m ((c : Thread nD τ).loc main_arg21)) (m ((c : Thread nD τ).loc main_arg23)) (m ((c : Thread nD τ).loc main_arg25)) : FVec Ideal S16384x8 .f32) (ix2 b 0))
    (fun b => (table (slab m c) ((dats m 0 c).arrAt 28 cfg0.N) (m ((c : Thread nD τ).loc main_arg19)) (m ((c : Thread nD τ).loc main_arg21)) (m ((c : Thread nD τ).loc main_arg23)) (m ((c : Thread nD τ).loc main_arg25)) : FVec Ideal S16384x8 .f32) (ix2 b 1))
    (fun r q => col1_at _ r q) (fun t p => ?_) (fun t p => ?_)
  · exact (table_0 _ _ _ _ _ _ t p).trans (final28_0 m c t p)
  · refine (table_1 _ _ _ _ _ _ t p).trans ?_
    split_ifs with h
    · subst h
      exact first1_eq m c t
    · rw [before_row _ t p h]
      exact final28_1 m c t p

/-- Result 2: the scores of the vectors 3 against the means. -/
theorem result2 : tail (fin m c) main_v93
    = Spec.scores 16383 (m ((c : Thread nD τ).loc main_arg20)) (m ((c : Thread nD τ).loc main_arg21)) (fun b => hid m c true b 3) (fun b => mean (hid m c true b)) := by
  rw [tail_v93, tab_eq]
  refine scores_eq 16383 _ _ _ _ _ (fun b => (table (slab m c) ((dats m 0 c).arrAt 28 cfg0.N) (m ((c : Thread nD τ).loc main_arg19)) (m ((c : Thread nD τ).loc main_arg21)) (m ((c : Thread nD τ).loc main_arg23)) (m ((c : Thread nD τ).loc main_arg25)) : FVec Ideal S16384x8 .f32) (ix2 b 2))
    (fun b => (table (slab m c) ((dats m 0 c).arrAt 28 cfg0.N) (m ((c : Thread nD τ).loc main_arg19)) (m ((c : Thread nD τ).loc main_arg21)) (m ((c : Thread nD τ).loc main_arg23)) (m ((c : Thread nD τ).loc main_arg25)) : FVec Ideal S16384x8 .f32) (ix2 b 3))
    (fun r q => col2_at _ r q) (fun t p => ?_) (fun t p => ?_)
  · exact (table_2 _ _ _ _ _ _ t p).trans (final28_2 m c t p)
  · refine (table_3 _ _ _ _ _ _ t p).trans ?_
    split_ifs with h
    · subst h
      exact first2_eq m c t
    · rw [before_row _ t p h]
      exact final28_3 m c t p

/-- Result 3: the scores of the vectors 3 against the vectors 2. -/
theorem result3 : tail (fin m c) main_v99
    = Spec.scores 16382 (m ((c : Thread nD τ).loc main_arg22)) (m ((c : Thread nD τ).loc main_arg23)) (fun b => hid m c false b 3) (fun b => hid m c false b 2) := by
  rw [tail_v99, tab_eq]
  refine scores_eq 16382 _ _ _ _ _ (fun b => (table (slab m c) ((dats m 0 c).arrAt 28 cfg0.N) (m ((c : Thread nD τ).loc main_arg19)) (m ((c : Thread nD τ).loc main_arg21)) (m ((c : Thread nD τ).loc main_arg23)) (m ((c : Thread nD τ).loc main_arg25)) : FVec Ideal S16384x8 .f32) (ix2 b 4))
    (fun b => (table (slab m c) ((dats m 0 c).arrAt 28 cfg0.N) (m ((c : Thread nD τ).loc main_arg19)) (m ((c : Thread nD τ).loc main_arg21)) (m ((c : Thread nD τ).loc main_arg23)) (m ((c : Thread nD τ).loc main_arg25)) : FVec Ideal S16384x8 .f32) (ix2 b 5))
    (fun r q => col3_at _ r q) (fun t p => ?_) (fun t p => ?_)
  · exact (table_4 _ _ _ _ _ _ t p).trans (final28_4 m c t p)
  · refine (table_5 _ _ _ _ _ _ t p).trans ?_
    split_ifs with h
    · subst h
      exact first3_eq m c t
    · rw [before_row _ t p h]
      exact final28_5 m c t p

/-- Result 4: the scores of the vectors 3 against the vectors 2. -/
theorem result4 : tail (fin m c) main_v105
    = Spec.scores 16382 (m ((c : Thread nD τ).loc main_arg24)) (m ((c : Thread nD τ).loc main_arg25)) (fun b => hid m c false b 3) (fun b => hid m c false b 2) := by
  rw [tail_v105, tab_eq]
  refine scores_eq 16382 _ _ _ _ _ (fun b => (table (slab m c) ((dats m 0 c).arrAt 28 cfg0.N) (m ((c : Thread nD τ).loc main_arg19)) (m ((c : Thread nD τ).loc main_arg21)) (m ((c : Thread nD τ).loc main_arg23)) (m ((c : Thread nD τ).loc main_arg25)) : FVec Ideal S16384x8 .f32) (ix2 b 6))
    (fun b => (table (slab m c) ((dats m 0 c).arrAt 28 cfg0.N) (m ((c : Thread nD τ).loc main_arg19)) (m ((c : Thread nD τ).loc main_arg21)) (m ((c : Thread nD τ).loc main_arg23)) (m ((c : Thread nD τ).loc main_arg25)) : FVec Ideal S16384x8 .f32) (ix2 b 7))
    (fun r q => col4_at _ r q) (fun t p => ?_) (fun t p => ?_)
  · exact (table_6 _ _ _ _ _ _ t p).trans (final28_6 m c t p)
  · refine (table_7 _ _ _ _ _ _ t p).trans ?_
    split_ifs with h
    · subst h
      exact first4_eq m c t
    · rw [before_row _ t p h]
      exact final28_7 m c t p

/-- Result 5: the decoded vectors of the third sequence. -/
theorem result5 : tail (fin m c) main_v106 = Spec.batch (out m c false) := by
  rw [tail_v106, fin_v20_0]
  funext i
  obtain ⟨b, j, k, rfl⟩ : ∃ b j k, i = ix3 b j k := ⟨i 0, i 1, i 2, eq_ix3 i⟩
  obtain ⟨t, p, rfl⟩ := exists_row b
  exact (split_at _ _ _ _ _).trans (final26 m c t p j k)

/-- Result 6: the decoded vectors of the fourth sequence. -/
theorem result6 : tail (fin m c) main_v107 = Spec.batch (out m c true) := by
  rw [tail_v107, fin_v20_1]
  funext i
  obtain ⟨b, j, k, rfl⟩ : ∃ b j k, i = ix3 b j k := ⟨i 0, i 1, i 2, eq_ix3 i⟩
  obtain ⟨t, p, rfl⟩ := exists_row b
  exact (split_at _ _ _ _ _).trans (final27 m c t p j k)

end Cert.Results

end
-- ==== Proof.Literals.lean ====
/- The float literals that the statements carry, as numbers. -/
module

public import Idealize.ShloMosaic.Lib.Pointwise

@[expose] public section

namespace Cert.Literals

open Idealize.ShloMosaic

/-- The divisor of the reference's mean. -/
theorem three : Ideal.ofBits .f32 0x40400000#32 = ((3 : ℝ) : EReal) := by
  simp [Ideal.ofBits, Ideal.ieee, -EReal.coe_mul]; norm_num

/-- The bound of the precondition. -/
theorem top : Ideal.ofBits .f32 0x7F800000#32 = ⊤ := by
  simp [Ideal.ofBits, Ideal.ieee, -EReal.coe_mul]

/-- Division by three is a product with a third. -/
theorem div_three (x : EReal) : Ideal.div x (Ideal.ofBits .f32 0x40400000#32) = x * ((1 / 3 : ℝ) : EReal) := by
  rw [three]
  unfold Ideal.div
  rw [if_neg (by norm_num), ← EReal.coe_inv, one_div]

end Cert.Literals

end
-- ==== Proof.Reference.lean ====
/- What the reference computes, entry by entry: the encoder's rows, the vectors that are scored, the columns of scores, and
   the decoded vectors. -/
module

public import proofs.«01_k».proof.Proof.Spec
public import proofs.«01_k».proof.Proof.Literals
public import proofs.«01_k».proof.Proof.Gen.ReferenceIdeal
public import proofs.«01_k».proof.Proof.Gen.ReferenceIdeal.Run

@[expose] public section

set_option maxRecDepth 200000

noncomputable section

namespace Cert.Ref

open Cert.ReferenceIdeal Cert.ReferenceIdeal.Gen Cert.ReferenceIdeal.Value Cert.Model
open Idealize.ShloMosaic

/-! ## The encoder -/

/-- The encoder of the reference before its activation, over the sequence `x`, the matrices `g`, the weight `w` and the
    bias `v`. -/
abbrev linear (x : FVec Ideal S16384x4x128 .f32) (g : FVec Ideal S16384x4x4 .f32) (w : FVec Ideal S128x64 .f32)
    (v : FVec Ideal S64 .f32) : FVec Ideal S16384x4x64 .f32 :=
  addf (Host.dotGeneral dot_S16384x4x4_S16384x4x64_S16384x4x64_2_1_1_2_0_0 none g
      (Host.dotGeneral dot_S16384x4x128_S128x64_S16384x4x64_2_0_01_1_n_n none x w))
    (broadcastInDim S16384x4x64 ![0, 1, 2] bcast_S1x1x64_S16384x4x64_0_1_2 (broadcastInDim S1x1x64 ![2] bcast_S64_S1x1x64_2 v))

/-- The activation of the reference on rows of 64 numbers. -/
abbrev slope (a : FVec Ideal S1 .f32) (f : FVec Ideal S16384x4x64 .f32) : FVec Ideal S16384x4x64 .f32 :=
  addf (maximumf f (broadcastInDim S16384x4x64 ![] bcast_S_S16384x4x64 (constant S_ .f32 0x00000000#32)))
    (mulf (broadcastInDim S16384x4x64 ![0, 1, 2] bcast_S1x1x1_S16384x4x64_0_1_2 (broadcastInDim S1x1x1 ![2] bcast_S1_S1x1x1_2 a))
      (minimumf f (broadcastInDim S16384x4x64 ![] bcast_S_S16384x4x64 (constant S_ .f32 0x00000000#32))))

/-- The activation at an entry. -/
theorem slope_at (a : FVec Ideal S1 .f32) (f : FVec Ideal S16384x4x64 .f32) (b : Fin 16384) (i : Fin 4) (o : Fin 64) :
    slope a f (ix3 b i o) = prelu (Spec.vec a 0) (f (ix3 b i o)) := by
  rw [← max_add_mul_min]
  pointwise [slope]
  rfl

/-- The rows before the activation. -/
theorem linear_at (x : FVec Ideal S16384x4x128 .f32) (g : FVec Ideal S16384x4x4 .f32) (w : FVec Ideal S128x64 .f32)
    (v : FVec Ideal S64 .f32) (b : Fin 16384) (i : Fin 4) (o : Fin 64) :
    linear x g w v (ix3 b i o) = mix (Spec.adj g b) (feat (Spec.seq x b) (Spec.mat w)) i o + Spec.vec v o := by
  pointwise [linear]
  rw [Fin.sum_univ_four]
  rfl

/-- The encoder's rows. -/
theorem encoder_at (x : FVec Ideal S16384x4x128 .f32) (g : FVec Ideal S16384x4x4 .f32) (w : FVec Ideal S128x64 .f32)
    (v : FVec Ideal S64 .f32) (a : FVec Ideal S1 .f32) (b : Fin 16384) (i : Fin 4) (o : Fin 64) :
    slope a (linear x g w v) (ix3 b i o) = Spec.hid x g w v a b i o := by
  rw [slope_at, linear_at]
  rfl

/-! ## The vectors that are scored -/

/-- The last row of every member. -/
theorem last_at (h : FVec Ideal S16384x4x64 .f32) (b : Fin 16384) (o : Fin 64) :
    (shapeCast S16384x64 (extractStridedSlice S16384x1x64 ![0, 3, 0] h slices_S16384x4x64_S16384x1x64_0_3_0)
      shapeCasts_S16384x1x64_S16384x64 : FVec Ideal S16384x64 .f32) (ix2 b o) = h (ix3 b 3 o) := by
  pointwise

/-- The last row but one of every member. -/
theorem third_at (h : FVec Ideal S16384x4x64 .f32) (b : Fin 16384) (o : Fin 64) :
    (shapeCast S16384x64 (extractStridedSlice S16384x1x64 ![0, 2, 0] h slices_S16384x4x64_S16384x1x64_0_2_0)
      shapeCasts_S16384x1x64_S16384x64 : FVec Ideal S16384x64 .f32) (ix2 b o) = h (ix3 b 2 o) := by
  pointwise

/-- The mean of the first three rows of every member. -/
theorem mean_at (h : FVec Ideal S16384x4x64 .f32) (b : Fin 16384) (o : Fin 64) :
    (Host.divf (Host.reduceAdd (extractStridedSlice S16384x3x64 ![0, 0, 0] h slices_S16384x4x64_S16384x3x64_0_0_0)
        (constant S_ .f32 0x00000000#32) reducesTo_S16384x3x64_S16384x64_d1 h_S_)
      (broadcastInDim S16384x64 ![] bcast_S_S16384x64 (constant S_ .f32 0x40400000#32)) : FVec Ideal S16384x64 .f32) (ix2 b o)
      = mean (fun i q => h (ix3 b i q)) o := by
  pointwise
  rw [Literals.div_three, Fin.sum_univ_three]
  rfl

/-! ## A column of scores -/

/-- The reference's scores of every member's `u` against its `c`. -/
abbrev bilinear (u c : FVec Ideal S16384x64 .f32) (w : FVec Ideal S1x64x64 .f32) (v : FVec Ideal S1 .f32) : FVec Ideal S16384x1 .f32 :=
  addf (Host.dotGeneral dot_S16384x64_S1x64x16384_S16384x1_1_1_n_0_0_2 none c
      (Host.dotGeneral dot_S1x64x64_S16384x64_S1x64x16384_1_1_02_0_n_n none w u))
    (broadcastInDim S16384x1 ![0, 1] bcast_S1x1_S16384x1_0_1 (broadcastInDim S1x1 ![1] bcast_S1_S1x1_1 v))

/-- One score. -/
theorem bilinear_at (u c : FVec Ideal S16384x64 .f32) (w : FVec Ideal S1x64x64 .f32) (v : FVec Ideal S1 .f32) (b : Fin 16384) :
    bilinear u c w v (ix2 b 0) = score (Spec.bil w) (Spec.vec v 0) (fun i => u (ix2 b i)) (fun j => c (ix2 b j)) := by
  pointwise [bilinear]
  refine congrArg₂ (· + ·) (Finset.sum_congr rfl fun j _ => ?_) rfl
  rw [mul_comm]
  exact congrArg (· * _) (Finset.sum_congr rfl fun i _ => mul_comm _ _)

/-- The row before `b`, with row `z` before the first one. -/
theorem dite_before {α : Type} (f : Fin 16384 → α) (z : ℕ) (hz : z < 16384) (b : Fin 16384) :
    (if h : (b : ℕ) < 1 then f ⟨z + b, by omega⟩ else f ⟨b - 1, by omega⟩) = f (Spec.before ⟨z, hz⟩ b) := by
  unfold Spec.before
  by_cases h : (b : ℕ) < 1
  · have hb : b = 0 := Fin.ext (by show (b : ℕ) = 0; omega)
    subst hb
    rfl
  · have hb : b ≠ 0 := fun e => h (by rw [e]; exact Nat.zero_lt_one)
    rw [dif_neg h, if_neg hb]

/-- The rows moved down by one, the last row on top. -/
abbrev down (c : FVec Ideal S16384x64 .f32) : FVec Ideal S16384x64 .f32 :=
  concatenate S16384x64 0 [⟨S1x64, (extractStridedSlice S1x64 ![16383, 0] c slices_S16384x64_S1x64_16383_0)⟩,
    ⟨S16383x64, (extractStridedSlice S16383x64 ![0, 0] c slices_S16384x64_S16383x64_0_0)⟩]
    concatenates_S1x64_S16383x64_S16384x64_d0

/-- Row `b` of `down c` is the row of `c` before it, and the last row of `c` for the first. -/
theorem down_at (c : FVec Ideal S16384x64 .f32) (b : Fin 16384) (o : Fin 64) :
    down c (ix2 b o) = c (ix2 (Spec.before 16383 b) o) := by
  refine Eq.trans ?_ (dite_before (fun b => c (ix2 b o)) 16383 (by norm_num) b)
  pointwise [down]

/-- The rows moved down by one, the last row but one on top. -/
abbrev down' (c : FVec Ideal S16384x64 .f32) : FVec Ideal S16384x64 .f32 :=
  concatenate S16384x64 0 [⟨S1x64, (extractStridedSlice S1x64 ![16382, 0] c slices_S16384x64_S1x64_16382_0)⟩,
    ⟨S16383x64, (extractStridedSlice S16383x64 ![0, 0] c slices_S16384x64_S16383x64_0_0)⟩]
    concatenates_S1x64_S16383x64_S16384x64_d0

/-- Row `b` of `down' c` is the row of `c` before it, and the last row but one of `c` for the first. -/
theorem down'_at (c : FVec Ideal S16384x64 .f32) (b : Fin 16384) (o : Fin 64) :
    down' c (ix2 b o) = c (ix2 (Spec.before 16382 b) o) := by
  refine Eq.trans ?_ (dite_before (fun b => c (ix2 b o)) 16382 (by norm_num) b)
  pointwise [down']

/-- The two halves of a column of scores, one below the other. -/
abbrev halves (x y : FVec Ideal S16384x1 .f32) : FVec Ideal S32768x1 .f32 :=
  concatenate S32768x1 0 [⟨S16384x1, x⟩, ⟨S16384x1, y⟩] concatenates_S16384x1_S16384x1_S32768x1_d0

/-- An entry of `halves x y` is the entry of `x` in the first 16384 rows, and of `y` in the others. -/
theorem halves_at (x y : FVec Ideal S16384x1 .f32) (r : Fin 32768) (q : Fin 1) :
    halves x y (ix2 r q)
      = if h : (r : ℕ) < 16384 then x (ix2 ⟨r, h⟩ 0) else y (ix2 ⟨(r : ℕ) - 16384, by omega⟩ 0) := by
  pointwise [halves]

/-- A column of scores of the rows `U` against the rows `C`, and against `C` moved by one. -/
theorem column_eq (z : Fin 16384) (u c d : FVec Ideal S16384x64 .f32) (w : FVec Ideal S1x64x64 .f32) (v : FVec Ideal S1 .f32)
    (U C : Fin 16384 → Fin 64 → EReal) (hu : ∀ b o, u (ix2 b o) = U b o) (hc : ∀ b o, c (ix2 b o) = C b o)
    (hd : ∀ b o, d (ix2 b o) = c (ix2 (Spec.before z b) o)) :
    halves (bilinear u c w v) (bilinear u d w v) = Spec.scores z w v U C := by
  funext i
  obtain ⟨r, q, rfl⟩ : ∃ (r : Fin 32768) (q : Fin 1), i = ix2 r q := ⟨i 0, i 1, eq_ix2 i⟩
  rw [halves_at]
  unfold Spec.scores Spec.pair
  split_ifs with h h' h' <;> first
    | exact absurd h h'
    | exact absurd h' h
    | (rw [bilinear_at]; simp only [hu, hd, hc]; rfl)

/-! ## The decoder -/

/-- The hidden rows of the decoder before their activation. -/
abbrev hidden (x : FVec Ideal S16384x4x128 .f32) (g : FVec Ideal S16384x4x4 .f32) (w1 : FVec Ideal S128x64 .f32)
    (w2 w3 wl : FVec Ideal S64x64 .f32) (bl : FVec Ideal S64 .f32) : FVec Ideal S16384x4x64 .f32 :=
  addf (Host.dotGeneral dot_S16384x4x64_S64x64_S16384x4x64_2_0_01_1_n_n none
      (Host.dotGeneral dot_S16384x4x4_S16384x4x64_S16384x4x64_2_1_1_2_0_0 none g
        (Host.dotGeneral dot_S16384x4x64_S64x64_S16384x4x64_2_0_01_1_n_n none
          (Host.dotGeneral dot_S16384x4x4_S16384x4x64_S16384x4x64_2_1_1_2_0_0 none g
            (Host.dotGeneral dot_S16384x4x64_S64x64_S16384x4x64_2_0_01_1_n_n none
              (Host.dotGeneral dot_S16384x4x4_S16384x4x64_S16384x4x64_2_1_1_2_0_0 none g
                (Host.dotGeneral dot_S16384x4x128_S128x64_S16384x4x64_2_0_01_1_n_n none x w1)) w2)) w3)) wl)
    (broadcastInDim S16384x4x64 ![0, 1, 2] bcast_S1x1x64_S16384x4x64_0_1_2 (broadcastInDim S1x1x64 ![2] bcast_S64_S1x1x64_2 bl))

/-- One mixing product of the reference. -/
theorem mix_at (g : FVec Ideal S16384x4x4 .f32) (f : FVec Ideal S16384x4x64 .f32) (b : Fin 16384) (i : Fin 4) (o : Fin 64) :
    (Host.dotGeneral dot_S16384x4x4_S16384x4x64_S16384x4x64_2_1_1_2_0_0 none g f : FVec Ideal S16384x4x64 .f32) (ix3 b i o)
      = mix (Spec.adj g b) (fun j q => f (ix3 b j q)) i o := by
  pointwise
  rw [Fin.sum_univ_four]
  rfl

/-- One product of the reference with a square weight. -/
theorem feat_at (f : FVec Ideal S16384x4x64 .f32) (w : FVec Ideal S64x64 .f32) (b : Fin 16384) (i : Fin 4) (o : Fin 64) :
    (Host.dotGeneral dot_S16384x4x64_S64x64_S16384x4x64_2_0_01_1_n_n none f w : FVec Ideal S16384x4x64 .f32) (ix3 b i o)
      = feat (fun j q => f (ix3 b j q)) (Spec.mat w) i o := by
  pointwise
  rfl

/-- The product of the sequence with its weight. -/
theorem first_at (x : FVec Ideal S16384x4x128 .f32) (w : FVec Ideal S128x64 .f32) (b : Fin 16384) (i : Fin 4) (o : Fin 64) :
    (Host.dotGeneral dot_S16384x4x128_S128x64_S16384x4x64_2_0_01_1_n_n none x w : FVec Ideal S16384x4x64 .f32) (ix3 b i o)
      = feat (Spec.seq x b) (Spec.mat w) i o := by
  pointwise
  rfl

/-- A bias on the rows. -/
theorem bias_at (f : FVec Ideal S16384x4x64 .f32) (v : FVec Ideal S64 .f32) (b : Fin 16384) (i : Fin 4) (o : Fin 64) :
    (addf f (broadcastInDim S16384x4x64 ![0, 1, 2] bcast_S1x1x64_S16384x4x64_0_1_2 (broadcastInDim S1x1x64 ![2] bcast_S64_S1x1x64_2 v))
      : FVec Ideal S16384x4x64 .f32) (ix3 b i o) = f (ix3 b i o) + Spec.vec v o := by
  pointwise
  rfl

/-- The hidden rows at an entry. -/
theorem hidden_at (x : FVec Ideal S16384x4x128 .f32) (g : FVec Ideal S16384x4x4 .f32) (w1 : FVec Ideal S128x64 .f32)
    (w2 w3 wl : FVec Ideal S64x64 .f32) (bl : FVec Ideal S64 .f32) (b : Fin 16384) (i : Fin 4) (o : Fin 64) :
    hidden x g w1 w2 w3 wl bl (ix3 b i o)
      = feat (mix (Spec.adj g b) (feat (mix (Spec.adj g b) (feat (mix (Spec.adj g b) (feat (Spec.seq x b) (Spec.mat w1)))
          (Spec.mat w2))) (Spec.mat w3))) (Spec.mat wl) i o + Spec.vec bl o := by
  unfold hidden
  rw [bias_at]
  simp only [feat_at, mix_at, first_at]

/-- The decoder of the reference over its hidden rows `h`. -/
abbrev decoded (h : FVec Ideal S16384x4x64 .f32) (g : FVec Ideal S16384x4x4 .f32) (wd : FVec Ideal S64x128 .f32)
    (bd : FVec Ideal S128 .f32) : FVec Ideal S16384x4x128 .f32 :=
  addf (Host.dotGeneral dot_S16384x4x4_S16384x4x128_S16384x4x128_2_1_1_2_0_0 none g
      (Host.dotGeneral dot_S16384x4x64_S64x128_S16384x4x128_2_0_01_1_n_n none h wd))
    (broadcastInDim S16384x4x128 ![0, 1, 2] bcast_S1x1x128_S16384x4x128_0_1_2 (broadcastInDim S1x1x128 ![2] bcast_S128_S1x1x128_2 bd))

/-- The decoder at an entry, before its activation. -/
theorem decoded_at (h : FVec Ideal S16384x4x64 .f32) (g : FVec Ideal S16384x4x4 .f32) (wd : FVec Ideal S64x128 .f32)
    (bd : FVec Ideal S128 .f32) (b : Fin 16384) (i : Fin 4) (o : Fin 128) :
    decoded h g wd bd (ix3 b i o)
      = mix (Spec.adj g b) (feat (fun j q => h (ix3 b j q)) (Spec.mat wd)) i o + Spec.vec bd o := by
  pointwise [decoded]
  rw [Fin.sum_univ_four]
  rfl

/-- The activation of the reference on rows of 128 numbers. -/
abbrev slopeOut (a : FVec Ideal S1 .f32) (f : FVec Ideal S16384x4x128 .f32) : FVec Ideal S16384x4x128 .f32 :=
  addf (maximumf f (broadcastInDim S16384x4x128 ![] bcast_S_S16384x4x128 (constant S_ .f32 0x00000000#32)))
    (mulf (broadcastInDim S16384x4x128 ![0, 1, 2] bcast_S1x1x1_S16384x4x128_0_1_2 (broadcastInDim S1x1x1 ![2] bcast_S1_S1x1x1_2 a))
      (minimumf f (broadcastInDim S16384x4x128 ![] bcast_S_S16384x4x128 (constant S_ .f32 0x00000000#32))))

/-- An entry of `slopeOut a f` is `prelu` of that entry of `f`, with the slope `a`. -/
theorem slopeOut_at (a : FVec Ideal S1 .f32) (f : FVec Ideal S16384x4x128 .f32) (b : Fin 16384) (i : Fin 4) (o : Fin 128) :
    slopeOut a f (ix3 b i o) = prelu (Spec.vec a 0) (f (ix3 b i o)) := by
  rw [← max_add_mul_min]
  pointwise [slopeOut]
  rfl

/-- The decoder of the reference is the one of the specification. -/
theorem decoder_eq (x : FVec Ideal S16384x4x128 .f32) (g : FVec Ideal S16384x4x4 .f32) (wd : FVec Ideal S64x128 .f32)
    (bd : FVec Ideal S128 .f32) (ad : FVec Ideal S1 .f32) (w1 : FVec Ideal S128x64 .f32)
    (w2 w3 wl : FVec Ideal S64x64 .f32) (bl : FVec Ideal S64 .f32) (al : FVec Ideal S1 .f32) :
    slopeOut ad (decoded (slope al (hidden x g w1 w2 w3 wl bl)) g wd bd)
      = Spec.batch (Spec.outR x g wd bd ad w1 w2 w3 wl bl al) := by
  funext i
  obtain ⟨b, j, o, rfl⟩ : ∃ (b : Fin 16384) (j : Fin 4) (o : Fin 128), i = ix3 b j o := ⟨i 0, i 1, i 2, eq_ix3 i⟩
  rw [slopeOut_at, decoded_at]
  simp only [slope_at, hidden_at]
  rfl

/-! ## The six results -/

variable (V : Valuation τ sig (Elt Ideal))

/-- The encoder's rows. -/
theorem v12_at (b : Fin 16384) (i : Fin 4) (o : Fin 64) :
    res_main_v12 V (ix3 b i o) = Spec.hid (V (Proc.devRef .tc main_arg0)) (V (Proc.devRef .tc main_arg4)) (V (Proc.devRef .tc main_arg6)) (V (Proc.devRef .tc main_arg7)) (V (Proc.devRef .tc main_arg8)) b i o :=
  encoder_at _ _ _ _ _ b i o

/-- The encoder's rows. -/
theorem v25_at (b : Fin 16384) (i : Fin 4) (o : Fin 64) :
    res_main_v25 V (ix3 b i o) = Spec.hid (V (Proc.devRef .tc main_arg0)) (V (Proc.devRef .tc main_arg4)) (V (Proc.devRef .tc main_arg6)) (V (Proc.devRef .tc main_arg7)) (V (Proc.devRef .tc main_arg8)) b i o :=
  encoder_at _ _ _ _ _ b i o

/-- The encoder's rows. -/
theorem v38_at (b : Fin 16384) (i : Fin 4) (o : Fin 64) :
    res_main_v38 V (ix3 b i o) = Spec.hid (V (Proc.devRef .tc main_arg1)) (V (Proc.devRef .tc main_arg5)) (V (Proc.devRef .tc main_arg6)) (V (Proc.devRef .tc main_arg7)) (V (Proc.devRef .tc main_arg8)) b i o :=
  encoder_at _ _ _ _ _ b i o

/-- The encoder's rows. -/
theorem v51_at (b : Fin 16384) (i : Fin 4) (o : Fin 64) :
    res_main_v51 V (ix3 b i o) = Spec.hid (V (Proc.devRef .tc main_arg0)) (V (Proc.devRef .tc main_arg4)) (V (Proc.devRef .tc main_arg6)) (V (Proc.devRef .tc main_arg7)) (V (Proc.devRef .tc main_arg8)) b i o :=
  encoder_at _ _ _ _ _ b i o

/-- The last row. -/
theorem v115_at (b : Fin 16384) (o : Fin 64) : res_main_v115 V (ix2 b o) = Spec.hid (V (Proc.devRef .tc main_arg0)) (V (Proc.devRef .tc main_arg4)) (V (Proc.devRef .tc main_arg6)) (V (Proc.devRef .tc main_arg7)) (V (Proc.devRef .tc main_arg8)) b 3 o :=
  (last_at (res_main_v12 V) b o).trans (v12_at V b 3 o)

/-- The mean of the first three rows. -/
theorem v119_at (b : Fin 16384) (o : Fin 64) : res_main_v119 V (ix2 b o) = mean (Spec.hid (V (Proc.devRef .tc main_arg0)) (V (Proc.devRef .tc main_arg4)) (V (Proc.devRef .tc main_arg6)) (V (Proc.devRef .tc main_arg7)) (V (Proc.devRef .tc main_arg8)) b) o :=
  (mean_at (res_main_v12 V) b o).trans (congrArg (fun f => mean f o) (funext fun i => funext fun q => v12_at V b i q))

/-- The last row. -/
theorem v121_at (b : Fin 16384) (o : Fin 64) : res_main_v121 V (ix2 b o) = Spec.hid (V (Proc.devRef .tc main_arg0)) (V (Proc.devRef .tc main_arg4)) (V (Proc.devRef .tc main_arg6)) (V (Proc.devRef .tc main_arg7)) (V (Proc.devRef .tc main_arg8)) b 3 o :=
  (last_at (res_main_v25 V) b o).trans (v25_at V b 3 o)

/-- The last row but one. -/
theorem v123_at (b : Fin 16384) (o : Fin 64) : res_main_v123 V (ix2 b o) = Spec.hid (V (Proc.devRef .tc main_arg0)) (V (Proc.devRef .tc main_arg4)) (V (Proc.devRef .tc main_arg6)) (V (Proc.devRef .tc main_arg7)) (V (Proc.devRef .tc main_arg8)) b 2 o :=
  (third_at (res_main_v25 V) b o).trans (v25_at V b 2 o)

/-- The last row. -/
theorem v125_at (b : Fin 16384) (o : Fin 64) : res_main_v125 V (ix2 b o) = Spec.hid (V (Proc.devRef .tc main_arg1)) (V (Proc.devRef .tc main_arg5)) (V (Proc.devRef .tc main_arg6)) (V (Proc.devRef .tc main_arg7)) (V (Proc.devRef .tc main_arg8)) b 3 o :=
  (last_at (res_main_v38 V) b o).trans (v38_at V b 3 o)

/-- The mean of the first three rows. -/
theorem v129_at (b : Fin 16384) (o : Fin 64) : res_main_v129 V (ix2 b o) = mean (Spec.hid (V (Proc.devRef .tc main_arg1)) (V (Proc.devRef .tc main_arg5)) (V (Proc.devRef .tc main_arg6)) (V (Proc.devRef .tc main_arg7)) (V (Proc.devRef .tc main_arg8)) b) o :=
  (mean_at (res_main_v38 V) b o).trans (congrArg (fun f => mean f o) (funext fun i => funext fun q => v38_at V b i q))

/-- The last row. -/
theorem v131_at (b : Fin 16384) (o : Fin 64) : res_main_v131 V (ix2 b o) = Spec.hid (V (Proc.devRef .tc main_arg0)) (V (Proc.devRef .tc main_arg4)) (V (Proc.devRef .tc main_arg6)) (V (Proc.devRef .tc main_arg7)) (V (Proc.devRef .tc main_arg8)) b 3 o :=
  (last_at (res_main_v51 V) b o).trans (v51_at V b 3 o)

/-- The last row but one. -/
theorem v133_at (b : Fin 16384) (o : Fin 64) : res_main_v133 V (ix2 b o) = Spec.hid (V (Proc.devRef .tc main_arg0)) (V (Proc.devRef .tc main_arg4)) (V (Proc.devRef .tc main_arg6)) (V (Proc.devRef .tc main_arg7)) (V (Proc.devRef .tc main_arg8)) b 2 o :=
  (third_at (res_main_v51 V) b o).trans (v51_at V b 2 o)

/-- The first column of scores. -/
theorem result1 :
    halves (bilinear (res_main_v115 V) (res_main_v119 V) (V (Proc.devRef .tc main_arg18)) (V (Proc.devRef .tc main_arg19)))
        (bilinear (res_main_v115 V) (down (res_main_v119 V)) (V (Proc.devRef .tc main_arg18)) (V (Proc.devRef .tc main_arg19)))
      = Spec.scores 16383 (V (Proc.devRef .tc main_arg18)) (V (Proc.devRef .tc main_arg19)) (fun b => Spec.hid (V (Proc.devRef .tc main_arg0)) (V (Proc.devRef .tc main_arg4)) (V (Proc.devRef .tc main_arg6)) (V (Proc.devRef .tc main_arg7)) (V (Proc.devRef .tc main_arg8)) b 3)
          (fun b => mean (Spec.hid (V (Proc.devRef .tc main_arg0)) (V (Proc.devRef .tc main_arg4)) (V (Proc.devRef .tc main_arg6)) (V (Proc.devRef .tc main_arg7)) (V (Proc.devRef .tc main_arg8)) b)) :=
  column_eq 16383 _ _ _ _ _ _ _ (v115_at V) (v119_at V) (down_at (res_main_v119 V))

/-- The second column of scores. -/
theorem result2 :
    halves (bilinear (res_main_v125 V) (res_main_v129 V) (V (Proc.devRef .tc main_arg20)) (V (Proc.devRef .tc main_arg21)))
        (bilinear (res_main_v125 V) (down (res_main_v129 V)) (V (Proc.devRef .tc main_arg20)) (V (Proc.devRef .tc main_arg21)))
      = Spec.scores 16383 (V (Proc.devRef .tc main_arg20)) (V (Proc.devRef .tc main_arg21)) (fun b => Spec.hid (V (Proc.devRef .tc main_arg1)) (V (Proc.devRef .tc main_arg5)) (V (Proc.devRef .tc main_arg6)) (V (Proc.devRef .tc main_arg7)) (V (Proc.devRef .tc main_arg8)) b 3)
          (fun b => mean (Spec.hid (V (Proc.devRef .tc main_arg1)) (V (Proc.devRef .tc main_arg5)) (V (Proc.devRef .tc main_arg6)) (V (Proc.devRef .tc main_arg7)) (V (Proc.devRef .tc main_arg8)) b)) :=
  column_eq 16383 _ _ _ _ _ _ _ (v125_at V) (v129_at V) (down_at (res_main_v129 V))

/-- The third column of scores. -/
theorem result3 :
    halves (bilinear (res_main_v121 V) (res_main_v123 V) (V (Proc.devRef .tc main_arg22)) (V (Proc.devRef .tc main_arg23)))
        (bilinear (res_main_v121 V) (down' (res_main_v123 V)) (V (Proc.devRef .tc main_arg22)) (V (Proc.devRef .tc main_arg23)))
      = Spec.scores 16382 (V (Proc.devRef .tc main_arg22)) (V (Proc.devRef .tc main_arg23)) (fun b => Spec.hid (V (Proc.devRef .tc main_arg0)) (V (Proc.devRef .tc main_arg4)) (V (Proc.devRef .tc main_arg6)) (V (Proc.devRef .tc main_arg7)) (V (Proc.devRef .tc main_arg8)) b 3)
          (fun b => Spec.hid (V (Proc.devRef .tc main_arg0)) (V (Proc.devRef .tc main_arg4)) (V (Proc.devRef .tc main_arg6)) (V (Proc.devRef .tc main_arg7)) (V (Proc.devRef .tc main_arg8)) b 2) :=
  column_eq 16382 _ _ _ _ _ _ _ (v121_at V) (v123_at V) (down'_at (res_main_v123 V))

/-- The fourth column of scores. -/
theorem result4 :
    halves (bilinear (res_main_v131 V) (res_main_v133 V) (V (Proc.devRef .tc main_arg24)) (V (Proc.devRef .tc main_arg25)))
        (bilinear (res_main_v131 V) (down' (res_main_v133 V)) (V (Proc.devRef .tc main_arg24)) (V (Proc.devRef .tc main_arg25)))
      = Spec.scores 16382 (V (Proc.devRef .tc main_arg24)) (V (Proc.devRef .tc main_arg25)) (fun b => Spec.hid (V (Proc.devRef .tc main_arg0)) (V (Proc.devRef .tc main_arg4)) (V (Proc.devRef .tc main_arg6)) (V (Proc.devRef .tc main_arg7)) (V (Proc.devRef .tc main_arg8)) b 3)
          (fun b => Spec.hid (V (Proc.devRef .tc main_arg0)) (V (Proc.devRef .tc main_arg4)) (V (Proc.devRef .tc main_arg6)) (V (Proc.devRef .tc main_arg7)) (V (Proc.devRef .tc main_arg8)) b 2) :=
  column_eq 16382 _ _ _ _ _ _ _ (v131_at V) (v133_at V) (down'_at (res_main_v133 V))

/-- The decoded vectors of the third sequence. -/
theorem result5 : slopeOut (V (Proc.devRef .tc main_arg11)) (res_main_v92 V)
    = Spec.batch (Spec.outR (V (Proc.devRef .tc main_arg2)) (V (Proc.devRef .tc main_arg4)) (V (Proc.devRef .tc main_arg9)) (V (Proc.devRef .tc main_arg10)) (V (Proc.devRef .tc main_arg11))
        (V (Proc.devRef .tc main_arg12)) (V (Proc.devRef .tc main_arg13)) (V (Proc.devRef .tc main_arg14)) (V (Proc.devRef .tc main_arg15)) (V (Proc.devRef .tc main_arg16)) (V (Proc.devRef .tc main_arg17))) :=
  decoder_eq _ _ _ _ _ _ _ _ _ _ _

/-- The decoded vectors of the fourth sequence. -/
theorem result6 : slopeOut (V (Proc.devRef .tc main_arg11)) (res_main_v105 V)
    = Spec.batch (Spec.outR (V (Proc.devRef .tc main_arg3)) (V (Proc.devRef .tc main_arg5)) (V (Proc.devRef .tc main_arg9)) (V (Proc.devRef .tc main_arg10)) (V (Proc.devRef .tc main_arg11))
        (V (Proc.devRef .tc main_arg12)) (V (Proc.devRef .tc main_arg13)) (V (Proc.devRef .tc main_arg14)) (V (Proc.devRef .tc main_arg15)) (V (Proc.devRef .tc main_arg16)) (V (Proc.devRef .tc main_arg17))) :=
  decoder_eq _ _ _ _ _ _ _ _ _ _ _

end Cert.Ref

end
-- ==== Proof.Finite.lean ====
/- Where every number that the decoder multiplies is finite, the kernel's decoder is the reference's. -/
module

public import proofs.«01_k».proof.Proof.Literals
public import proofs.«01_k».proof.Proof.Spec

@[expose] public section

namespace Cert.Finite

open Idealize.ShloMosaic Cert.Model

/-- An array whose every number is below the infinite bound in size holds real numbers. -/
theorem real_of {s : Shape} (x : FVec Ideal s .f32) (h : (⟨0, ![]⟩ : Shape).BroadcastsInDim s (![] : Fin 0 → Fin s.rank))
    (e : cmpf .olt (Host.absf x) (broadcastInDim s ![] h (constant ⟨0, ![]⟩ .f32 0x7F800000#32)) = fun _ => 1#1) (i : s.Idx) :
    ∃ r : ℝ, x i = (r : EReal) := by
  have h := congrFun e i
  revert h
  pointwise
  rw [Literals.top]
  intro h
  have hlt : max (x i) (-(x i)) < (⊤ : EReal) := by
    by_contra hn
    have : decide (FloatOps.absf (x i) < (⊤ : EReal)) = false := decide_eq_false hn
    rw [this] at h
    exact absurd h (by decide)
  have hr : ∀ y : EReal, max y (-y) < ⊤ → ∃ r : ℝ, y = (r : EReal) := by
    intro y hy
    induction y using EReal.rec with
    | bot => exact absurd hy (by simp)
    | coe r => exact ⟨r, rfl⟩
    | top => exact absurd hy (by simp)
  exact hr _ hlt

/-- The two decoders agree on finite numbers; the last bias and the last slope may be any. -/
theorem outK_eq_outR (x : Spec.Seq) (g : Spec.Adj) (wd : Spec.Mat 64 128) (bd : Spec.Row 128) (ad : Spec.Row 1)
    (w1 : Spec.Mat 128 64) (w2 w3 wl : Spec.Mat 64 64) (bl : Spec.Row 64) (al : Spec.Row 1)
    (hx : ∀ i, ∃ r : ℝ, x i = (r : EReal)) (hg : ∀ i, ∃ r : ℝ, g i = (r : EReal)) (hd : ∀ i, ∃ r : ℝ, wd i = (r : EReal))
    (h1 : ∀ i, ∃ r : ℝ, w1 i = (r : EReal)) (h2 : ∀ i, ∃ r : ℝ, w2 i = (r : EReal)) (h3 : ∀ i, ∃ r : ℝ, w3 i = (r : EReal))
    (hl : ∀ i, ∃ r : ℝ, wl i = (r : EReal)) (hb : ∀ i, ∃ r : ℝ, bl i = (r : EReal)) (ha : ∀ i, ∃ r : ℝ, al i = (r : EReal)) :
    Spec.outK x g wd bd ad w1 w2 w3 wl bl al = Spec.outR x g wd bd ad w1 w2 w3 wl bl al := by
  choose x' ex using hx
  choose g' eg using hg
  choose wd' ed using hd
  choose w1' e1 using h1
  choose w2' e2 using h2
  choose w3' e3 using h3
  choose wl' el using hl
  choose bl' eb using hb
  choose al' ea using ha
  funext b
  have hX : Spec.seq x b = up (fun j k => x' (ix3 b j k)) := funext fun j => funext fun k => ex _
  have hA : Spec.adj g b = up (fun i j => g' (ix3 b i j)) := funext fun i => funext fun j => eg _
  have hD : Spec.mat wd = up (fun i j => wd' (ix2 i j)) := funext fun i => funext fun j => ed _
  have hW1 : Spec.mat w1 = up (fun i j => w1' (ix2 i j)) := funext fun i => funext fun j => e1 _
  have hW2 : Spec.mat w2 = up (fun i j => w2' (ix2 i j)) := funext fun i => funext fun j => e2 _
  have hW3 : Spec.mat w3 = up (fun i j => w3' (ix2 i j)) := funext fun i => funext fun j => e3 _
  have hWl : Spec.mat wl = up (fun i j => wl' (ix2 i j)) := funext fun i => funext fun j => el _
  have hB : Spec.vec bl = fun o => (bl' (ix1 o) : EReal) := funext fun o => eb _
  have hS : Spec.vec al 0 = (al' (ix1 0) : EReal) := ea _
  unfold Spec.outK Spec.outR
  rw [hX, hA, hD, hW1, hW2, hW3, hWl, hB, hS]
  exact decK_eq_decR _ _ _ _ _ _ _ _ _ _ _

end Cert.Finite

end
-- ==== Proof.Equation.lean ====
/- The equation: on the same arguments the reference's six results are the kernel's. Results 1 to 4 need nothing; results
   5 and 6 need the numbers that the decoder multiplies to be finite. -/
module

public import proofs.«01_k».proof.Proof.Results
public import proofs.«01_k».proof.Proof.Reference
public import proofs.«01_k».proof.Proof.Finite

@[expose] public section

noncomputable section

namespace Cert.Equation

open Cert.KernelIdeal Cert.KernelIdeal.Gen Cert.Model Cert.Tail Cert.Results
open Idealize.ShloMosaic Idealize.ShloMosaic.TcCoe

variable (m : (ℓ : Loc nD τ sig) → Buf (Elt Ideal) ℓ) (c : Dev nD)
  (V : Valuation Cert.ReferenceIdeal.τ Cert.ReferenceIdeal.sig (Elt Ideal))

/-- The reference's contents `V` hold the kernel's arguments. -/
structure Args : Prop where
  a0 : V (Proc.devRef .tc Cert.ReferenceIdeal.main_arg0) = m ((c : Thread nD τ).loc main_arg0)
  a1 : V (Proc.devRef .tc Cert.ReferenceIdeal.main_arg1) = m ((c : Thread nD τ).loc main_arg1)
  a2 : V (Proc.devRef .tc Cert.ReferenceIdeal.main_arg2) = m ((c : Thread nD τ).loc main_arg2)
  a3 : V (Proc.devRef .tc Cert.ReferenceIdeal.main_arg3) = m ((c : Thread nD τ).loc main_arg3)
  a4 : V (Proc.devRef .tc Cert.ReferenceIdeal.main_arg4) = m ((c : Thread nD τ).loc main_arg4)
  a5 : V (Proc.devRef .tc Cert.ReferenceIdeal.main_arg5) = m ((c : Thread nD τ).loc main_arg5)
  a6 : V (Proc.devRef .tc Cert.ReferenceIdeal.main_arg6) = m ((c : Thread nD τ).loc main_arg6)
  a7 : V (Proc.devRef .tc Cert.ReferenceIdeal.main_arg7) = m ((c : Thread nD τ).loc main_arg7)
  a8 : V (Proc.devRef .tc Cert.ReferenceIdeal.main_arg8) = m ((c : Thread nD τ).loc main_arg8)
  a9 : V (Proc.devRef .tc Cert.ReferenceIdeal.main_arg9) = m ((c : Thread nD τ).loc main_arg9)
  a10 : V (Proc.devRef .tc Cert.ReferenceIdeal.main_arg10) = m ((c : Thread nD τ).loc main_arg10)
  a11 : V (Proc.devRef .tc Cert.ReferenceIdeal.main_arg11) = m ((c : Thread nD τ).loc main_arg11)
  a12 : V (Proc.devRef .tc Cert.ReferenceIdeal.main_arg12) = m ((c : Thread nD τ).loc main_arg12)
  a13 : V (Proc.devRef .tc Cert.ReferenceIdeal.main_arg13) = m ((c : Thread nD τ).loc main_arg13)
  a14 : V (Proc.devRef .tc Cert.ReferenceIdeal.main_arg14) = m ((c : Thread nD τ).loc main_arg14)
  a15 : V (Proc.devRef .tc Cert.ReferenceIdeal.main_arg15) = m ((c : Thread nD τ).loc main_arg15)
  a16 : V (Proc.devRef .tc Cert.ReferenceIdeal.main_arg16) = m ((c : Thread nD τ).loc main_arg16)
  a17 : V (Proc.devRef .tc Cert.ReferenceIdeal.main_arg17) = m ((c : Thread nD τ).loc main_arg17)
  a18 : V (Proc.devRef .tc Cert.ReferenceIdeal.main_arg18) = m ((c : Thread nD τ).loc main_arg18)
  a19 : V (Proc.devRef .tc Cert.ReferenceIdeal.main_arg19) = m ((c : Thread nD τ).loc main_arg19)
  a20 : V (Proc.devRef .tc Cert.ReferenceIdeal.main_arg20) = m ((c : Thread nD τ).loc main_arg20)
  a21 : V (Proc.devRef .tc Cert.ReferenceIdeal.main_arg21) = m ((c : Thread nD τ).loc main_arg21)
  a22 : V (Proc.devRef .tc Cert.ReferenceIdeal.main_arg22) = m ((c : Thread nD τ).loc main_arg22)
  a23 : V (Proc.devRef .tc Cert.ReferenceIdeal.main_arg23) = m ((c : Thread nD τ).loc main_arg23)
  a24 : V (Proc.devRef .tc Cert.ReferenceIdeal.main_arg24) = m ((c : Thread nD τ).loc main_arg24)
  a25 : V (Proc.devRef .tc Cert.ReferenceIdeal.main_arg25) = m ((c : Thread nD τ).loc main_arg25)

variable {m c V}

/-- The first column of scores. -/
theorem result1 (h : Args m c V) :
    Ref.halves (Ref.bilinear (Cert.ReferenceIdeal.Value.res_main_v115 V) (Cert.ReferenceIdeal.Value.res_main_v119 V)
          (V (Proc.devRef .tc Cert.ReferenceIdeal.main_arg18)) (V (Proc.devRef .tc Cert.ReferenceIdeal.main_arg19)))
        (Ref.bilinear (Cert.ReferenceIdeal.Value.res_main_v115 V) (Ref.down (Cert.ReferenceIdeal.Value.res_main_v119 V))
          (V (Proc.devRef .tc Cert.ReferenceIdeal.main_arg18)) (V (Proc.devRef .tc Cert.ReferenceIdeal.main_arg19)))
      = tail (fin m c) main_v87 := by
  rw [Ref.result1, Results.result1, h.a18, h.a19, h.a0, h.a4, h.a6, h.a7, h.a8]
  rfl

/-- The second column of scores. -/
theorem result2 (h : Args m c V) :
    Ref.halves (Ref.bilinear (Cert.ReferenceIdeal.Value.res_main_v125 V) (Cert.ReferenceIdeal.Value.res_main_v129 V)
          (V (Proc.devRef .tc Cert.ReferenceIdeal.main_arg20)) (V (Proc.devRef .tc Cert.ReferenceIdeal.main_arg21)))
        (Ref.bilinear (Cert.ReferenceIdeal.Value.res_main_v125 V) (Ref.down (Cert.ReferenceIdeal.Value.res_main_v129 V))
          (V (Proc.devRef .tc Cert.ReferenceIdeal.main_arg20)) (V (Proc.devRef .tc Cert.ReferenceIdeal.main_arg21)))
      = tail (fin m c) main_v93 := by
  rw [Ref.result2, Results.result2, h.a20, h.a21, h.a1, h.a5, h.a6, h.a7, h.a8]
  rfl

/-- The third column of scores. -/
theorem result3 (h : Args m c V) :
    Ref.halves (Ref.bilinear (Cert.ReferenceIdeal.Value.res_main_v121 V) (Cert.ReferenceIdeal.Value.res_main_v123 V)
          (V (Proc.devRef .tc Cert.ReferenceIdeal.main_arg22)) (V (Proc.devRef .tc Cert.ReferenceIdeal.main_arg23)))
        (Ref.bilinear (Cert.ReferenceIdeal.Value.res_main_v121 V) (Ref.down' (Cert.ReferenceIdeal.Value.res_main_v123 V))
          (V (Proc.devRef .tc Cert.ReferenceIdeal.main_arg22)) (V (Proc.devRef .tc Cert.ReferenceIdeal.main_arg23)))
      = tail (fin m c) main_v99 := by
  rw [Ref.result3, Results.result3, h.a22, h.a23, h.a0, h.a4, h.a6, h.a7, h.a8]
  rfl

/-- The fourth column of scores. -/
theorem result4 (h : Args m c V) :
    Ref.halves (Ref.bilinear (Cert.ReferenceIdeal.Value.res_main_v131 V) (Cert.ReferenceIdeal.Value.res_main_v133 V)
          (V (Proc.devRef .tc Cert.ReferenceIdeal.main_arg24)) (V (Proc.devRef .tc Cert.ReferenceIdeal.main_arg25)))
        (Ref.bilinear (Cert.ReferenceIdeal.Value.res_main_v131 V) (Ref.down' (Cert.ReferenceIdeal.Value.res_main_v133 V))
          (V (Proc.devRef .tc Cert.ReferenceIdeal.main_arg24)) (V (Proc.devRef .tc Cert.ReferenceIdeal.main_arg25)))
      = tail (fin m c) main_v105 := by
  rw [Ref.result4, Results.result4, h.a24, h.a25, h.a0, h.a4, h.a6, h.a7, h.a8]
  rfl

/-- The numbers that the decoder multiplies are finite. -/
structure Finite (m : (ℓ : Loc nD τ sig) → Buf (Elt Ideal) ℓ) (c : Dev nD) : Prop where
  f2 : ∀ i, ∃ r : ℝ, (m ((c : Thread nD τ).loc main_arg2)) i = (r : EReal)
  f3 : ∀ i, ∃ r : ℝ, (m ((c : Thread nD τ).loc main_arg3)) i = (r : EReal)
  f4 : ∀ i, ∃ r : ℝ, (m ((c : Thread nD τ).loc main_arg4)) i = (r : EReal)
  f5 : ∀ i, ∃ r : ℝ, (m ((c : Thread nD τ).loc main_arg5)) i = (r : EReal)
  f9 : ∀ i, ∃ r : ℝ, (m ((c : Thread nD τ).loc main_arg9)) i = (r : EReal)
  f12 : ∀ i, ∃ r : ℝ, (m ((c : Thread nD τ).loc main_arg12)) i = (r : EReal)
  f13 : ∀ i, ∃ r : ℝ, (m ((c : Thread nD τ).loc main_arg13)) i = (r : EReal)
  f14 : ∀ i, ∃ r : ℝ, (m ((c : Thread nD τ).loc main_arg14)) i = (r : EReal)
  f15 : ∀ i, ∃ r : ℝ, (m ((c : Thread nD τ).loc main_arg15)) i = (r : EReal)
  f16 : ∀ i, ∃ r : ℝ, (m ((c : Thread nD τ).loc main_arg16)) i = (r : EReal)
  f17 : ∀ i, ∃ r : ℝ, (m ((c : Thread nD τ).loc main_arg17)) i = (r : EReal)

/-- The decoded vectors of the third sequence. -/
theorem result5 (h : Args m c V) (hf : Finite m c) :
    Ref.slopeOut (V (Proc.devRef .tc Cert.ReferenceIdeal.main_arg11)) (Cert.ReferenceIdeal.Value.res_main_v92 V) = tail (fin m c) main_v106 := by
  rw [Ref.result5, Results.result5, h.a2, h.a4, h.a9, h.a10, h.a11, h.a12, h.a13, h.a14, h.a15, h.a16, h.a17]
  exact congrArg Spec.batch (Finite.outK_eq_outR _ _ _ _ _ _ _ _ _ _ _
    hf.f2 hf.f4 hf.f9 hf.f12 hf.f13 hf.f14 hf.f15 hf.f16 hf.f17).symm

/-- The decoded vectors of the fourth sequence. -/
theorem result6 (h : Args m c V) (hf : Finite m c) :
    Ref.slopeOut (V (Proc.devRef .tc Cert.ReferenceIdeal.main_arg11)) (Cert.ReferenceIdeal.Value.res_main_v105 V) = tail (fin m c) main_v107 := by
  rw [Ref.result6, Results.result6, h.a3, h.a5, h.a9, h.a10, h.a11, h.a12, h.a13, h.a14, h.a15, h.a16, h.a17]
  exact congrArg Spec.batch (Finite.outK_eq_outR _ _ _ _ _ _ _ _ _ _ _
    hf.f3 hf.f5 hf.f9 hf.f12 hf.f13 hf.f14 hf.f15 hf.f16 hf.f17).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelRun
public import proofs.«01_k».proof.Proof.KernelIdealRun
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel runs to its end, leaves its arguments as they were and has no semaphore left over. -/
theorem quiescent_Kernel : Cert.quiescent_Kernel := fun m ρ _ =>
  θ_run_and (Cert.Kernel.Gen.frame_of m ρ (Cert.Kernel.Body.dats m) (Cert.Kernel.Body.A_eq m)
      ((θ_run Cert.Kernel.defs _ _).mono (fun _ h => h.1) (Cert.Kernel.Body.run_main_quiescent m ρ)))
    ((θ_run Cert.Kernel.defs _ _).mono (fun _ h => h.2) (Cert.Kernel.Body.run_main_quiescent m ρ))

/-- The kernel's ideal form runs to its end, leaves its arguments as they were and has no semaphore left over. -/
theorem quiescent_KernelIdeal : Cert.quiescent_KernelIdeal := fun m ρ _ =>
  θ_run_and (Cert.KernelIdeal.Gen.frame_of m ρ (Cert.KernelIdeal.Body.dats m) (Cert.KernelIdeal.Body.A_eq m)
      ((θ_run Cert.KernelIdeal.defs _ _).mono (fun _ h => h.1) (Cert.KernelIdeal.Body.run_main_quiescent m ρ)))
    ((θ_run Cert.KernelIdeal.defs _ _).mono (fun _ h => h.2) (Cert.KernelIdeal.Body.run_main_quiescent m ρ))

/-- The reference runs to its end, leaves its arguments as they were and has no semaphore left over. -/
theorem quiescent_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The side conditions of the precondition's operations. -/
theorem facts_pre : Cert.Pre_finite_encoder.Facts where
  bcast_S_S16384x4x128 := by decide
  bcast_S_S16384x4x4 := by decide
  bcast_S_S64x128 := by decide
  bcast_S_S128x64 := by decide
  bcast_S_S64x64 := by decide
  bcast_S_S64 := by decide
  bcast_S_S1 := by decide

/-- The side conditions of the mask's operations. -/
theorem facts_on : Cert.On_scores.Facts where
  bcast_S_S32768x1 := by decide
  bcast_S_S16384x4x128 := by decide

/-- The precondition says that the numbers which the decoder multiplies are finite. -/
theorem finite_of (m : (ℓ : Loc Cert.KernelIdeal.nD Cert.KernelIdeal.τ Cert.KernelIdeal.sig) → Buf (Elt Ideal) ℓ)
    (h : Cert.Pre_KernelIdeal_finite_encoder (hPre_finite_encoder := facts_pre) m) (c : Dev Cert.KernelIdeal.nD) :
    Cert.Equation.Finite m c := by
  obtain ⟨h2, h3, h4, h5, h9, h12, h13, h14, h15, h16, h17⟩ := h c
  exact ⟨Cert.Finite.real_of _ _ h2, Cert.Finite.real_of _ _ h3, Cert.Finite.real_of _ _ h4, Cert.Finite.real_of _ _ h5,
    Cert.Finite.real_of _ _ h9, Cert.Finite.real_of _ _ h12, Cert.Finite.real_of _ _ h13, Cert.Finite.real_of _ _ h14,
    Cert.Finite.real_of _ _ h15, Cert.Finite.real_of _ _ h16, Cert.Finite.real_of _ _ h17⟩

/-- What the kernel's ideal form leaves in a buffer that no window holds. -/
abbrev left (m : (ℓ : Loc Cert.KernelIdeal.nD Cert.KernelIdeal.τ Cert.KernelIdeal.sig) → Buf (Elt Ideal) ℓ)
    (c : Dev Cert.KernelIdeal.nD) (b : Ref Cert.KernelIdeal.sig .tc) : Buf (Elt Ideal) ((c.tc : Thread Cert.KernelIdeal.nD Cert.KernelIdeal.τ).loc b) :=
  Cert.Tail.tail (Cert.Results.fin m c) b

/-- The kernel's ideal form ends with its six results in place and its arguments as they were. -/
theorem kernel_results (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v87) = left m c Cert.KernelIdeal.main_v87
        ∧ r.2.mem ((c.tc : Thread Cert.KernelIdeal.nD Cert.KernelIdeal.τ).loc Cert.KernelIdeal.main_v93) = left m c Cert.KernelIdeal.main_v93
        ∧ r.2.mem ((c.tc : Thread Cert.KernelIdeal.nD Cert.KernelIdeal.τ).loc Cert.KernelIdeal.main_v99) = left m c Cert.KernelIdeal.main_v99
        ∧ r.2.mem ((c.tc : Thread Cert.KernelIdeal.nD Cert.KernelIdeal.τ).loc Cert.KernelIdeal.main_v105) = left m c Cert.KernelIdeal.main_v105
        ∧ r.2.mem ((c.tc : Thread Cert.KernelIdeal.nD Cert.KernelIdeal.τ).loc Cert.KernelIdeal.main_v106) = left m c Cert.KernelIdeal.main_v106
        ∧ r.2.mem ((c.tc : Thread Cert.KernelIdeal.nD Cert.KernelIdeal.τ).loc Cert.KernelIdeal.main_v107) = left m c Cert.KernelIdeal.main_v107
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
        ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
        ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
        ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
        ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)) :=
  (θ_run Cert.KernelIdeal.defs _ _).mono (fun r h c =>
      ⟨(h.2 c).2 Cert.KernelIdeal.main_v87 (Pipeline.mem_restRefs_of Cert.KernelIdeal.main_v87 (by decide) (by decide)),
        (h.2 c).2 Cert.KernelIdeal.main_v93 (Pipeline.mem_restRefs_of Cert.KernelIdeal.main_v93 (by decide) (by decide)),
        (h.2 c).2 Cert.KernelIdeal.main_v99 (Pipeline.mem_restRefs_of Cert.KernelIdeal.main_v99 (by decide) (by decide)),
        (h.2 c).2 Cert.KernelIdeal.main_v105 (Pipeline.mem_restRefs_of Cert.KernelIdeal.main_v105 (by decide) (by decide)),
        (h.2 c).2 Cert.KernelIdeal.main_v106 (Pipeline.mem_restRefs_of Cert.KernelIdeal.main_v106 (by decide) (by decide)),
        (h.2 c).2 Cert.KernelIdeal.main_v107 (Pipeline.mem_restRefs_of Cert.KernelIdeal.main_v107 (by decide) (by decide)),
        h.1 c⟩)
    (θ_run_and (Cert.KernelIdeal.Gen.frame_of m g (Cert.KernelIdeal.Body.dats m) (Cert.KernelIdeal.Body.A_eq m)
        ((θ_run Cert.KernelIdeal.defs _ _).mono (fun _ h => h.1) (Cert.KernelIdeal.Body.run_main_quiescent m g)))
      ((θ_run Cert.KernelIdeal.defs _ _).mono (fun _ h => h.1) (Cert.KernelIdeal.Body.run_main_quiescent m g)))

/-- The reference starts with the kernel's arguments. -/
theorem args_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) : Cert.Equation.Args m c (StableHlo.launchContents m' c) := by
  obtain ⟨h0, h1, h2, h3, h4, h5, h6, h7, h8, h9, h10, h11, h12, h13, h14, h15, h16, h17, h18, h19, h20, h21, h22, h23, h24, h25⟩ := h
  exact ⟨h0, h1, h2, h3, h4, h5, h6, h7, h8, h9, h10, h11, h12, h13, h14, h15, h16, h17, h18, h19, h20, h21, h22, h23, h24, h25⟩

set_option maxRecDepth 200000 in
/-- On finite numbers the kernel's six results are the reference's. -/
theorem all_results : Cert.algebraic_KernelIdeal_ReferenceIdeal_pre_finite_encoder (hPre_finite_encoder := facts_pre) := by
  intro m g m' g' hp ha
  refine ⟨fun c => left m c Cert.KernelIdeal.main_v87, fun c => left m c Cert.KernelIdeal.main_v93, fun c => left m c Cert.KernelIdeal.main_v99, fun c => left m c Cert.KernelIdeal.main_v105, fun c => left m c Cert.KernelIdeal.main_v106, fun c => left m c Cert.KernelIdeal.main_v107, kernel_results m g, ?_⟩
  refine (θ_run Cert.ReferenceIdeal.defs _ _).mono (fun r h c => ?_) (Cert.ReferenceIdeal.Value.run (F := Ideal) m' g')
  have hv := args_of m m' c (ha c)
  have hf := finite_of m hp c
  exact ⟨(h c).1.trans (Cert.Equation.result1 hv), (h c).2.1.trans (Cert.Equation.result2 hv),
    (h c).2.2.1.trans (Cert.Equation.result3 hv), (h c).2.2.2.1.trans (Cert.Equation.result4 hv),
    (h c).2.2.2.2.1.trans (Cert.Equation.result5 hv hf), (h c).2.2.2.2.2.1.trans (Cert.Equation.result6 hv hf),
    (h c).2.2.2.2.2.2⟩

set_option maxRecDepth 200000 in
/-- On every input the kernel's four columns of scores are the reference's. -/
theorem all_scores : Cert.algebraic_KernelIdeal_ReferenceIdeal_on_scores (hOn_scores := facts_on) := by
  intro m g m' g' _ ha
  refine ⟨fun c => left m c Cert.KernelIdeal.main_v87, fun c => left m c Cert.KernelIdeal.main_v93, fun c => left m c Cert.KernelIdeal.main_v99, fun c => left m c Cert.KernelIdeal.main_v105, fun c => left m c Cert.KernelIdeal.main_v106, fun c => left m c Cert.KernelIdeal.main_v107, ?_, ?_⟩
  · refine (θ_run Cert.KernelIdeal.defs _ _).mono (fun r h c => ?_) (kernel_results m g)
    obtain ⟨e1, e2, e3, e4, e5, e6, e⟩ := h c
    exact ⟨fun i _ => congrFun e1 i, fun i _ => congrFun e2 i, fun i _ => congrFun e3 i, fun i _ => congrFun e4 i,
      fun i _ => congrFun e5 i, fun i _ => congrFun e6 i, e⟩
  · refine (θ_run Cert.ReferenceIdeal.defs _ _).mono (fun r h c => ?_) (Cert.ReferenceIdeal.Value.run (F := Ideal) m' g')
    have hv := args_of m m' c (ha c)
    refine ⟨fun i _ => congrFun ((h c).1.trans (Cert.Equation.result1 hv)) i,
      fun i _ => congrFun ((h c).2.1.trans (Cert.Equation.result2 hv)) i,
      fun i _ => congrFun ((h c).2.2.1.trans (Cert.Equation.result3 hv)) i,
      fun i _ => congrFun ((h c).2.2.2.1.trans (Cert.Equation.result4 hv)) i,
      fun i hi => absurd hi ?_, fun i hi => absurd hi ?_, (h c).2.2.2.2.2.2⟩
    · exact (by decide : ¬ ((0#1 : BitVec 1) = 1#1))
    · exact (by decide : ¬ ((0#1 : BitVec 1) = 1#1))

/-- Every claim of the certificate. -/
theorem claim : Cert.Claim :=
  ⟨Cert.Kernel.Gen.facts, Cert.KernelIdeal.Gen.facts, Cert.ReferenceIdeal.Gen.facts, facts_pre, facts_on,
    quiescent_Kernel, quiescent_KernelIdeal, fun m ρ _ => quiescent_KernelIdeal m ρ trivial,
    quiescent_reference, fun m ρ _ => quiescent_reference m ρ trivial,
    IdealRules.named_const.statement Cert.KernelIdeal.κ "third" .f32 0x3EAAAAAB#32 ((1 / 3 : ℝ) : EReal) rfl,
    all_results, all_scores⟩

end Cert.Proof

end
